-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x512 : Shape := ⟨3, ![16, 512, 512]⟩
abbrev S16 : Shape := ⟨1, ![16]⟩
abbrev S1024x320 : Shape := ⟨2, ![1024, 320]⟩
abbrev S320x1280 : Shape := ⟨2, ![320, 1280]⟩
abbrev S1280 : Shape := ⟨1, ![1280]⟩
abbrev S512x320 : Shape := ⟨2, ![512, 320]⟩
abbrev S320x320 : Shape := ⟨2, ![320, 320]⟩
abbrev S320 : Shape := ⟨1, ![320]⟩
abbrev S320x1024 : Shape := ⟨2, ![320, 1024]⟩
abbrev S1024 : Shape := ⟨1, ![1024]⟩
abbrev S_ : Shape := ⟨0, ![]⟩

class Facts : Prop where
  bcast_S_S320x1024 : S_.BroadcastsInDim S320x1024 (![] : Fin 0 → Fin S320x1024.rank)
  bcast_S_S1024 : S_.BroadcastsInDim S1024 (![] : Fin 0 → Fin S1024.rank)

variable [Facts]

def fn {F : FTy → Type} [FloatOps F] (main_arg0 : FVec F S16x512x512 .f32) (main_arg1 : IVec S16 32) (main_arg2 : FVec F S1024x320 .f32) (main_arg3 : FVec F S320x1280 .f32) (main_arg4 : FVec F S320x1280 .f32) (main_arg5 : FVec F S1280 .f32) (main_arg6 : FVec F S512x320 .f32) (main_arg7 : FVec F S320x320 .f32) (main_arg8 : FVec F S320 .f32) (main_arg9 : FVec F S320x1024 .f32) (main_arg10 : FVec F S1024 .f32) : IVec S320x1024 1 × IVec S1024 1 :=
  let main_v0 : FVec F S320x1024 .f32 := Host.absf main_arg9
  let main_cst : FVec F S_ .f32 := constant S_ .f32 0x7F800000#32
  let main_v1 : FVec F S320x1024 .f32 := broadcastInDim S320x1024 ![] bcast_S_S320x1024 main_cst
  let main_v2 : IVec S320x1024 1 := cmpf .olt main_v0 main_v1
  let main_v3 : FVec F S1024 .f32 := Host.absf main_arg10
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S16x512x512 : Shape := ⟨3, ![16, 512, 512]⟩
abbrev S16 : Shape := ⟨1, ![16]⟩
abbrev S1024x320 : Shape := ⟨2, ![1024, 320]⟩
abbrev S320x1280 : Shape := ⟨2, ![320, 1280]⟩
abbrev S1280 : Shape := ⟨1, ![1280]⟩
abbrev S512x320 : Shape := ⟨2, ![512, 320]⟩
abbrev S320x320 : Shape := ⟨2, ![320, 320]⟩
abbrev S320 : Shape := ⟨1, ![320]⟩
abbrev S320x1024 : Shape := ⟨2, ![320, 1024]⟩
abbrev S1024 : Shape := ⟨1, ![1024]⟩
abbrev S512x16x512 : Shape := ⟨3, ![512, 16, 512]⟩
abbrev S8192x512 : Shape := ⟨2, ![8192, 512]⟩
abbrev S1x320 : Shape := ⟨2, ![1, 320]⟩
abbrev S8192x320 : Shape := ⟨2, ![8192, 320]⟩
abbrev S1024x512 : Shape := ⟨2, ![1024, 512]⟩
abbrev S512x16x320 : Shape := ⟨3, ![512, 16, 320]⟩
abbrev S16x1 : Shape := ⟨2, ![16, 1]⟩
abbrev S16x128 : Shape := ⟨2, ![16, 128]⟩
abbrev S1x1280 : Shape := ⟨2, ![1, 1280]⟩
abbrev S1x1024 : Shape := ⟨2, ![1, 1024]⟩
abbrev S16x512 : Shape := ⟨2, ![16, 512]⟩
abbrev S16x1024 : Shape := ⟨2, ![16, 1024]⟩
abbrev S16x320 : Shape := ⟨2, ![16, 320]⟩
abbrev S16x1280 : Shape := ⟨2, ![16, 1280]⟩
abbrev S1x16x320 : Shape := ⟨3, ![1, 16, 320]⟩

abbrev nBuf : Space → Nat
  | .hbm => 22
  | .vmem => 17
  | .smem => 0
  | _ => 0

abbrev bufTy : (tb : Table) → Fin (tcTables nBuf tb) → BufTy
  | .hbm, ⟨0, _⟩ => ⟨S16x512x512, .f32⟩
  | .hbm, ⟨1, _⟩ => ⟨S16, .i32⟩
  | .hbm, ⟨2, _⟩ => ⟨S1024x320, .f32⟩
  | .hbm, ⟨3, _⟩ => ⟨S320x1280, .f32⟩
  | .hbm, ⟨4, _⟩ => ⟨S320x1280, .f32⟩
  | .hbm, ⟨5, _⟩ => ⟨S1280, .f32⟩
  | .hbm, ⟨6, _⟩ => ⟨S512x320, .f32⟩
  | .hbm, ⟨7, _⟩ => ⟨S320x320, .f32⟩
  | .hbm, ⟨8, _⟩ => ⟨S320, .f32⟩
  | .hbm, ⟨9, _⟩ => ⟨S320x1024, .f32⟩
  | .hbm, ⟨10, _⟩ => ⟨S1024, .f32⟩
  | .hbm, ⟨11, _⟩ => ⟨S512x16x512, .f32⟩
  | .hbm, ⟨12, _⟩ => ⟨S8192x512, .f32⟩
  | .hbm, ⟨13, _⟩ => ⟨S1x320, .f32⟩
  | .hbm, ⟨14, _⟩ => ⟨S8192x320, .f32⟩
  | .hbm, ⟨15, _⟩ => ⟨S512x16x320, .f32⟩
  | .hbm, ⟨16, _⟩ => ⟨S16x1, .i32⟩
  | .hbm, ⟨17, _⟩ => ⟨S16x128, .i32⟩
  | .hbm, ⟨18, _⟩ => ⟨S1x1280, .f32⟩
  | .hbm, ⟨19, _⟩ => ⟨S1x1024, .f32⟩
  | .hbm, ⟨20, _⟩ => ⟨S16x512, .i32⟩
  | .hbm, ⟨21, _⟩ => ⟨S16x512, .f32⟩
  | .local _ .vmem, ⟨0, _⟩ => ⟨S1024x512, .f32⟩
  | .local _ .vmem, ⟨1, _⟩ => ⟨S1024x512, .f32⟩
  | .local _ .vmem, ⟨2, _⟩ => ⟨S512x320, .f32⟩
  | .local _ .vmem, ⟨3, _⟩ => ⟨S1x320, .f32⟩
  | .local _ .vmem, ⟨4, _⟩ => ⟨S1024x320, .f32⟩
  | .local _ .vmem, ⟨5, _⟩ => ⟨S1024x320, .f32⟩
  | .local _ .vmem, ⟨6, _⟩ => ⟨S512x16x320, .f32⟩
  | .local _ .vmem, ⟨7, _⟩ => ⟨S16x128, .i32⟩
  | .local _ .vmem, ⟨8, _⟩ => ⟨S1024x320, .f32⟩
  | .local _ .vmem, ⟨9, _⟩ => ⟨S320x1280, .f32⟩
  | .local _ .vmem, ⟨10, _⟩ => ⟨S320x1280, .f32⟩
  | .local _ .vmem, ⟨11, _⟩ => ⟨S1x1280, .f32⟩
  | .local _ .vmem, ⟨12, _⟩ => ⟨S320x320, .f32⟩
  | .local _ .vmem, ⟨13, _⟩ => ⟨S320x1024, .f32⟩
  | .local _ .vmem, ⟨14, _⟩ => ⟨S1x1024, .f32⟩
  | .local _ .vmem, ⟨15, _⟩ => ⟨S16x512, .i32⟩
  | .local _ .vmem, ⟨16, _⟩ => ⟨S16x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

@[reducible] def k1_t1_loop : Scf.Loop 32 :=
  let c0_i32_4 : BitVec 32 := 0#32
  let c128_i32 : BitVec 32 := 128#32
  let v10 : BitVec 32 := Scalar.addi c0_i32_4 c128_i32
  let c1_i32 : BitVec 32 := 1#32
  ⟨c0_i32_4, v10, c1_i32⟩
def k1_off1 (k1_t1 : Fin k1_t1_loop.trips) : Fin 3 → Nat :=
  let c0_i32_37 : BitVec 32 := 0#32
  let c0_i32_4 : BitVec 32 := 0#32
  let c1_i32 : BitVec 32 := 1#32
  let arg12 : BitVec 32 := Scf.iv c0_i32_4 c1_i32 k1_t1
  let v32 : BitVec 32 := Scalar.addi c0_i32_37 arg12
  let v61 : Index := Scalar.indexCast v32
  let c0_49 : Index := 0#32
  let c0_50 : Index := 0#32
  ![v61.toNat, 0, 0]
@[reducible] def k1_t2_loop : Scf.Loop 32 :=
  let c0_i32_12 : BitVec 32 := 0#32
  let c128_i32_13 : BitVec 32 := 128#32
  let v16 : BitVec 32 := Scalar.addi c0_i32_12 c128_i32_13
  let c1_i32_14 : BitVec 32 := 1#32
  ⟨c0_i32_12, v16, c1_i32_14⟩
def k1_off2 (k1_t2 : Fin k1_t2_loop.trips) : Fin 3 → Nat :=
  let c128_i32_37 : BitVec 32 := 128#32
  let c0_i32_12 : BitVec 32 := 0#32
  let c1_i32_14 : BitVec 32 := 1#32
  let arg12 : BitVec 32 := Scf.iv c0_i32_12 c1_i32_14 k1_t2
  let v32 : BitVec 32 := Scalar.addi c128_i32_37 arg12
  let v61 : Index := Scalar.indexCast v32
  let c0_49 : Index := 0#32
  let c0_50 : Index := 0#32
  ![v61.toNat, 0, 0]
@[reducible] def k1_t3_loop : Scf.Loop 32 :=
  let c0_i32_21 : BitVec 32 := 0#32
  let c128_i32_22 : BitVec 32 := 128#32
  let v22 : BitVec 32 := Scalar.addi c0_i32_21 c128_i32_22
  let c1_i32_23 : BitVec 32 := 1#32
  ⟨c0_i32_21, v22, c1_i32_23⟩
def k1_off3 (k1_t3 : Fin k1_t3_loop.trips) : Fin 3 → Nat :=
  let c256_i32 : BitVec 32 := 256#32
  let c0_i32_21 : BitVec 32 := 0#32
  let c1_i32_23 : BitVec 32 := 1#32
  let arg12 : BitVec 32 := Scf.iv c0_i32_21 c1_i32_23 k1_t3
  let v32 : BitVec 32 := Scalar.addi c256_i32 arg12
  let v61 : Index := Scalar.indexCast v32
  let c0_48 : Index := 0#32
  let c0_49 : Index := 0#32
  ![v61.toNat, 0, 0]
@[reducible] def k1_t4_loop : Scf.Loop 32 :=
  let c0_i32_30 : BitVec 32 := 0#32
  let c128_i32_31 : BitVec 32 := 128#32
  let v28 : BitVec 32 := Scalar.addi c0_i32_30 c128_i32_31
  let c1_i32_32 : BitVec 32 := 1#32
  ⟨c0_i32_30, v28, c1_i32_32⟩
def k1_off4 (k1_t4 : Fin k1_t4_loop.trips) : Fin 3 → Nat :=
  let c384_i32 : BitVec 32 := 384#32
  let c0_i32_30 : BitVec 32 := 0#32
  let c1_i32_32 : BitVec 32 := 1#32
  let arg12 : BitVec 32 := Scf.iv c0_i32_30 c1_i32_32 k1_t4
  let v32 : BitVec 32 := Scalar.addi c384_i32 arg12
  let v61 : Index := Scalar.indexCast v32
  let c0_48 : Index := 0#32
  let c0_49 : Index := 0#32
  ![v61.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x16x320 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x320 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S320x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S320x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S320x320 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S320x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x512 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S16x512x512 : Shape := ⟨3, ![16, 512, 512]⟩
abbrev S16 : Shape := ⟨1, ![16]⟩
abbrev S1024x320 : Shape := ⟨2, ![1024, 320]⟩
abbrev S320x1280 : Shape := ⟨2, ![320, 1280]⟩
abbrev S1280 : Shape := ⟨1, ![1280]⟩
abbrev S512x320 : Shape := ⟨2, ![512, 320]⟩
abbrev S320x320 : Shape := ⟨2, ![320, 320]⟩
abbrev S320 : Shape := ⟨1, ![320]⟩
abbrev S320x1024 : Shape := ⟨2, ![320, 1024]⟩
abbrev S1024 : Shape := ⟨1, ![1024]⟩
abbrev S_ : Shape := ⟨0, ![]⟩
abbrev S16x320 : Shape := ⟨2, ![16, 320]⟩
abbrev S512 : Shape := ⟨1, ![512]⟩
abbrev S512x16 : Shape := ⟨2, ![512, 16]⟩
abbrev S1 : Shape := ⟨1, ![1]⟩
abbrev S16x1x512 : Shape := ⟨3, ![16, 1, 512]⟩
abbrev S16x512 : Shape := ⟨2, ![16, 512]⟩
abbrev S16x1 : Shape := ⟨2, ![16, 1]⟩
abbrev S1x1 : Shape := ⟨2, ![1, 1]⟩
abbrev S16x1280 : Shape := ⟨2, ![16, 1280]⟩
abbrev S1x1280 : Shape := ⟨2, ![1, 1280]⟩
abbrev S1x320 : Shape := ⟨2, ![1, 320]⟩
abbrev S16x1024 : Shape := ⟨2, ![16, 1024]⟩
abbrev S1x1024 : Shape := ⟨2, ![1, 1024]⟩
abbrev S16x1x1 : Shape := ⟨3, ![16, 1, 1]⟩
abbrev S1x1x1 : Shape := ⟨3, ![1, 1, 1]⟩
abbrev S1x16 : Shape := ⟨2, ![1, 16]⟩

abbrev nBuf : Space → Nat
  | .hbm => 211
  | .vmem => 0
  | .smem => 0
  | _ => 0

abbrev hbmTy0_0 (i : Nat) : BufTy := match i % 128 with
  | 0 => ⟨S16x512x512, .f32⟩
  | 1 => ⟨S16, .i32⟩
  | 2 => ⟨S1024x320, .f32⟩
  | 3 => ⟨S320x1280, .f32⟩
  | 4 => ⟨S320x1280, .f32⟩
  | 5 => ⟨S1280, .f32⟩
  | 6 => ⟨S512x320, .f32⟩
  | 7 => ⟨S320x320, .f32⟩
  | 8 => ⟨S320, .f32⟩
  | 9 => ⟨S320x1024, .f32⟩
  | 10 => ⟨S1024, .f32⟩
  | 11 => ⟨S_, .f32⟩
  | 12 => ⟨S16x320, .f32⟩
  | 13 => ⟨S_, .f32⟩
  | 14 => ⟨S16x320, .f32⟩
  | 15 => ⟨S_, .i32⟩
  | 16 => ⟨S16, .i32⟩
  | 17 => ⟨S512, .i32⟩
  | 18 => ⟨S_, .i32⟩
  | 19 => ⟨S512x16, .i32⟩
  | 20 => ⟨S_, .f32⟩
  | 21 => ⟨S512x16, .f32⟩
  | 22 => ⟨S_, .i32⟩
  | 23 => ⟨S512, .i32⟩
  | 24 => ⟨S16, .i32⟩
  | 25 => ⟨S16x512x512, .f32⟩
  | 26 => ⟨S1024x320, .f32⟩
  | 27 => ⟨S320x1280, .f32⟩
  | 28 => ⟨S320x1280, .f32⟩
  | 29 => ⟨S1280, .f32⟩
  | 30 => ⟨S512x320, .f32⟩
  | 31 => ⟨S320x320, .f32⟩
  | 32 => ⟨S320, .f32⟩
  | 33 => ⟨S320x1024, .f32⟩
  | 34 => ⟨S1024, .f32⟩
  | 35 => ⟨S_, .i32⟩
  | 36 => ⟨S16x320, .f32⟩
  | 37 => ⟨S16x320, .f32⟩
  | 38 => ⟨S16, .i32⟩
  | 39 => ⟨S512x16, .i32⟩
  | 40 => ⟨S512x16, .f32⟩
  | 41 => ⟨S_, .i32⟩
  | 42 => ⟨S_, .i1⟩
  | 43 => ⟨S1, .i32⟩
  | 44 => ⟨S_, .i32⟩
  | 45 => ⟨S16, .i32⟩
  | 46 => ⟨S16, .i1⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S16x1x512, .f32⟩
  | 69 => ⟨S16x512, .f32⟩
  | 70 => ⟨S_, .i32⟩
  | 71 => ⟨S16, .i32⟩
  | 72 => ⟨S16, .i1⟩
  | 73 => ⟨S_, .i32⟩
  | 74 => ⟨S16, .i32⟩
  | 75 => ⟨S16, .i32⟩
  | 76 => ⟨S16, .i32⟩
  | 77 => ⟨S16x1, .i32⟩
  | 78 => ⟨S1, .i32⟩
  | 79 => ⟨S_, .i32⟩
  | 80 => ⟨S16x1, .i32⟩
  | 81 => ⟨S16x1, .i1⟩
  | 82 => ⟨S1x1, .i32⟩
  | 83 => ⟨S16x1, .i32⟩
  | 84 => ⟨S16x1, .i1⟩
  | 85 => ⟨S16x1, .i1⟩
  | 86 => ⟨S_, .i1⟩
  | 87 => ⟨S16, .i1⟩
  | 88 => ⟨S16x320, .f32⟩
  | 89 => ⟨S16x320, .i1⟩
  | 90 => ⟨S_, .f32⟩
  | 91 => ⟨S16x320, .f32⟩
  | 92 => ⟨S16x320, .f32⟩
  | 93 => ⟨S16x1280, .f32⟩
  | 94 => ⟨S16x1280, .f32⟩
  | 95 => ⟨S16x1280, .f32⟩
  | 96 => ⟨S1x1280, .f32⟩
  | 97 => ⟨S16x1280, .f32⟩
  | 98 => ⟨S16x1280, .f32⟩
  | 99 => ⟨S16x320, .f32⟩
  | 100 => ⟨S16x320, .f32⟩
  | 101 => ⟨S16x320, .f32⟩
  | 102 => ⟨S16x320, .f32⟩
  | 103 => ⟨S16x320, .f32⟩
  | 104 => ⟨S16x320, .f32⟩
  | 105 => ⟨S_, .f32⟩
  | 106 => ⟨S16x320, .f32⟩
  | 107 => ⟨S16x320, .f32⟩
  | 108 => ⟨S_, .f32⟩
  | 109 => ⟨S16x320, .f32⟩
  | 110 => ⟨S16x320, .f32⟩
  | 111 => ⟨S16x320, .f32⟩
  | 112 => ⟨S16x320, .f32⟩
  | 113 => ⟨S16x320, .f32⟩
  | 114 => ⟨S_, .f32⟩
  | 115 => ⟨S16x320, .f32⟩
  | 116 => ⟨S16x320, .f32⟩
  | 117 => ⟨S_, .f32⟩
  | 118 => ⟨S16x320, .f32⟩
  | 119 => ⟨S16x320, .f32⟩
  | 120 => ⟨S16x320, .f32⟩
  | 121 => ⟨S16x320, .f32⟩
  | 122 => ⟨S16x320, .f32⟩
  | 123 => ⟨S16x320, .f32⟩
  | 124 => ⟨S16x320, .f32⟩
  | 125 => ⟨S_, .f32⟩
  | 126 => ⟨S16x320, .f32⟩
  | 127 => ⟨S16x320, .f32⟩
  | _ => ⟨S16x512x512, .f32⟩

abbrev hbmTy0_1 (i : Nat) : BufTy := match i % 128 with
  | 0 => ⟨S_, .f32⟩
  | 1 => ⟨S16x320, .f32⟩
  | 2 => ⟨S16x320, .f32⟩
  | 3 => ⟨S16x320, .f32⟩
  | 4 => ⟨S16x320, .f32⟩
  | 5 => ⟨S16x320, .f32⟩
  | 6 => ⟨S16x320, .f32⟩
  | 7 => ⟨S16x320, .f32⟩
  | 8 => ⟨S1x320, .f32⟩
  | 9 => ⟨S16x320, .f32⟩
  | 10 => ⟨S16x320, .f32⟩
  | 11 => ⟨S16x320, .f32⟩
  | 12 => ⟨S16x1024, .f32⟩
  | 13 => ⟨S1x1024, .f32⟩
  | 14 => ⟨S16x1024, .f32⟩
  | 15 => ⟨S16x1024, .f32⟩
  | 16 => ⟨S_, .f32⟩
  | 17 => ⟨S16, .f32⟩
  | 18 => ⟨S_, .f32⟩
  | 19 => ⟨S16, .f32⟩
  | 20 => ⟨S16, .f32⟩
  | 21 => ⟨S16x1, .f32⟩
  | 22 => ⟨S16x1024, .f32⟩
  | 23 => ⟨S16x1024, .f32⟩
  | 24 => ⟨S16x1024, .f32⟩
  | 25 => ⟨S_, .f32⟩
  | 26 => ⟨S16, .f32⟩
  | 27 => ⟨S16x1, .f32⟩
  | 28 => ⟨S16x1, .f32⟩
  | 29 => ⟨S16x1024, .f32⟩
  | 30 => ⟨S16x1024, .f32⟩
  | 31 => ⟨S16x1024, .i32⟩
  | 32 => ⟨S_, .f32⟩
  | 33 => ⟨S_, .i32⟩
  | 34 => ⟨S16, .f32⟩
  | 35 => ⟨S16, .i32⟩
  | 36 => ⟨S_, .i32⟩
  | 37 => ⟨S16, .i32⟩
  | 38 => ⟨S16, .i1⟩
  | 39 => ⟨S16, .i1⟩
  | 40 => ⟨S16x1, .i1⟩
  | 41 => ⟨S16x320, .i1⟩
  | 42 => ⟨S16x320, .f32⟩
  | 43 => ⟨S16x320, .i1⟩
  | 44 => ⟨S16x320, .f32⟩
  | 45 => ⟨S16, .i32⟩
  | 46 => ⟨S_, .i32⟩
  | 47 => ⟨S16, .i32⟩
  | 48 => ⟨S16, .i32⟩
  | 49 => ⟨S16x1, .i32⟩
  | 50 => ⟨S_, .i32⟩
  | 51 => ⟨S16x1, .i32⟩
  | 52 => ⟨S16x1, .i1⟩
  | 53 => ⟨S_, .i32⟩
  | 54 => ⟨S16x1, .i32⟩
  | 55 => ⟨S16x1, .i32⟩
  | 56 => ⟨S16x1, .i32⟩
  | 57 => ⟨S16x1x1, .i32⟩
  | 58 => ⟨S1, .i32⟩
  | 59 => ⟨S_, .i32⟩
  | 60 => ⟨S16x1x1, .i32⟩
  | 61 => ⟨S16x1x1, .i1⟩
  | 62 => ⟨S1x1x1, .i32⟩
  | 63 => ⟨S16x1x1, .i32⟩
  | 64 => ⟨S16x1x1, .i1⟩
  | 65 => ⟨S16x1x1, .i1⟩
  | 66 => ⟨S_, .i1⟩
  | 67 => ⟨S16x1, .i1⟩
  | 68 => ⟨S16x1, .f32⟩
  | 69 => ⟨S_, .f32⟩
  | 70 => ⟨S16x1, .f32⟩
  | 71 => ⟨S16x1, .f32⟩
  | 72 => ⟨S16, .f32⟩
  | 73 => ⟨S1x16, .i32⟩
  | 74 => ⟨S_, .i32⟩
  | 75 => ⟨S512x16, .i32⟩
  | 76 => ⟨S1x16, .f32⟩
  | 77 => ⟨S_, .i32⟩
  | 78 => ⟨S512x16, .f32⟩
  | 79 => ⟨S_, .i32⟩
  | 80 => ⟨S_, .i32⟩
  | 81 => ⟨S16x512, .i32⟩
  | 82 => ⟨S16x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_c_3 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v6_4 : Ref sig .tc := ⟨.hbm, 27, rfl⟩
abbrev main_v6_5 : Ref sig .tc := ⟨.hbm, 28, rfl⟩
abbrev main_v6_6 : Ref sig .tc := ⟨.hbm, 29, rfl⟩
abbrev main_v6_7 : Ref sig .tc := ⟨.hbm, 30, rfl⟩
abbrev main_v6_8 : Ref sig .tc := ⟨.hbm, 31, rfl⟩
abbrev main_v6_9 : Ref sig .tc := ⟨.hbm, 32, rfl⟩
abbrev main_v6_10 : Ref sig .tc := ⟨.hbm, 33, rfl⟩
abbrev main_v6_11 : Ref sig .tc := ⟨.hbm, 34, rfl⟩
abbrev main_v6_12 : Ref sig .tc := ⟨.hbm, 35, rfl⟩
abbrev main_v6_13 : Ref sig .tc := ⟨.hbm, 36, rfl⟩
abbrev main_v6_14 : Ref sig .tc := ⟨.hbm, 37, rfl⟩
abbrev main_v6_15 : Ref sig .tc := ⟨.hbm, 38, rfl⟩
abbrev main_v6_16 : Ref sig .tc := ⟨.hbm, 39, rfl⟩
abbrev main_v6_17 : Ref sig .tc := ⟨.hbm, 40, rfl⟩
abbrev main_while0c_c_21 : Ref sig .tc := ⟨.hbm, 41, rfl⟩
abbrev main_while0c_v9 : Ref sig .tc := ⟨.hbm, 42, rfl⟩
abbrev main_while0b_call0_v0 : Ref sig .tc := ⟨.hbm, 43, rfl⟩
abbrev main_while0b_v9 : Ref sig .tc := ⟨.hbm, 44, rfl⟩
abbrev main_while0b_v10 : Ref sig .tc := ⟨.hbm, 45, rfl⟩
abbrev main_while0b_v11 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v12 : Ref sig .tc := ⟨.hbm, 49, rfl⟩
abbrev main_while0b_c_23 : Ref sig .tc := ⟨.hbm, 50, rfl⟩
abbrev main_while0b_c_24 : Ref sig .tc := ⟨.hbm, 51, rfl⟩
abbrev main_while0b_v13 : Ref sig .tc := ⟨.hbm, 52, rfl⟩
abbrev main_while0b_c_25 : Ref sig .tc := ⟨.hbm, 53, rfl⟩
abbrev main_while0b_v14 : Ref sig .tc := ⟨.hbm, 54, rfl⟩
abbrev main_while0b_c_26 : Ref sig .tc := ⟨.hbm, 55, rfl⟩
abbrev main_while0b_v15 : Ref sig .tc := ⟨.hbm, 56, rfl⟩
abbrev main_while0b_c_27 : Ref sig .tc := ⟨.hbm, 57, rfl⟩
abbrev main_while0b_v16 : Ref sig .tc := ⟨.hbm, 58, rfl⟩
abbrev main_while0b_v17 : Ref sig .tc := ⟨.hbm, 59, rfl⟩
abbrev main_while0b_c_28 : Ref sig .tc := ⟨.hbm, 60, rfl⟩
abbrev main_while0b_c_29 : Ref sig .tc := ⟨.hbm, 61, rfl⟩
abbrev main_while0b_v18 : Ref sig .tc := ⟨.hbm, 62, rfl⟩
abbrev main_while0b_c_30 : Ref sig .tc := ⟨.hbm, 63, rfl⟩
abbrev main_while0b_c_31 : Ref sig .tc := ⟨.hbm, 64, rfl⟩
abbrev main_while0b_v19 : Ref sig .tc := ⟨.hbm, 65, rfl⟩
abbrev main_while0b_c_32 : Ref sig .tc := ⟨.hbm, 66, rfl⟩
abbrev main_while0b_v20 : Ref sig .tc := ⟨.hbm, 67, rfl⟩
abbrev main_while0b_v21 : Ref sig .tc := ⟨.hbm, 68, rfl⟩
abbrev main_while0b_v22 : Ref sig .tc := ⟨.hbm, 69, rfl⟩
abbrev main_while0b_call1_c : Ref sig .tc := ⟨.hbm, 70, rfl⟩
abbrev main_while0b_call1_v0 : Ref sig .tc := ⟨.hbm, 71, rfl⟩
abbrev main_while0b_call1_v1 : Ref sig .tc := ⟨.hbm, 72, rfl⟩
abbrev main_while0b_call1_c_0 : Ref sig .tc := ⟨.hbm, 73, rfl⟩
abbrev main_while0b_call1_v2 : Ref sig .tc := ⟨.hbm, 74, rfl⟩
abbrev main_while0b_call1_v3 : Ref sig .tc := ⟨.hbm, 75, rfl⟩
abbrev main_while0b_call1_v4 : Ref sig .tc := ⟨.hbm, 76, rfl⟩
abbrev main_while0b_call1_v5 : Ref sig .tc := ⟨.hbm, 77, rfl⟩
abbrev main_while0b_call1_c_1 : Ref sig .tc := ⟨.hbm, 78, rfl⟩
abbrev main_while0b_call1_c_2 : Ref sig .tc := ⟨.hbm, 79, rfl⟩
abbrev main_while0b_call1_v6 : Ref sig .tc := ⟨.hbm, 80, rfl⟩
abbrev main_while0b_call1_v7 : Ref sig .tc := ⟨.hbm, 81, rfl⟩
abbrev main_while0b_call1_v8 : Ref sig .tc := ⟨.hbm, 82, rfl⟩
abbrev main_while0b_call1_v9 : Ref sig .tc := ⟨.hbm, 83, rfl⟩
abbrev main_while0b_call1_v10 : Ref sig .tc := ⟨.hbm, 84, rfl⟩
abbrev main_while0b_call1_v11 : Ref sig .tc := ⟨.hbm, 85, rfl⟩
abbrev main_while0b_call1_c_3 : Ref sig .tc := ⟨.hbm, 86, rfl⟩
abbrev main_while0b_call1_v12 : Ref sig .tc := ⟨.hbm, 87, rfl⟩
abbrev main_while0b_call1_v13 : Ref sig .tc := ⟨.hbm, 88, rfl⟩
abbrev main_while0b_call1_v14 : Ref sig .tc := ⟨.hbm, 89, rfl⟩
abbrev main_while0b_call1_cst : Ref sig .tc := ⟨.hbm, 90, rfl⟩
abbrev main_while0b_call1_v15 : Ref sig .tc := ⟨.hbm, 91, rfl⟩
abbrev main_while0b_v23 : Ref sig .tc := ⟨.hbm, 92, rfl⟩
abbrev main_while0b_v24 : Ref sig .tc := ⟨.hbm, 93, rfl⟩
abbrev main_while0b_v25 : Ref sig .tc := ⟨.hbm, 94, rfl⟩
abbrev main_while0b_v26 : Ref sig .tc := ⟨.hbm, 95, rfl⟩
abbrev main_while0b_v27 : Ref sig .tc := ⟨.hbm, 96, rfl⟩
abbrev main_while0b_v28 : Ref sig .tc := ⟨.hbm, 97, rfl⟩
abbrev main_while0b_v29 : Ref sig .tc := ⟨.hbm, 98, rfl⟩
abbrev main_while0b_v30 : Ref sig .tc := ⟨.hbm, 99, rfl⟩
abbrev main_while0b_v31 : Ref sig .tc := ⟨.hbm, 100, rfl⟩
abbrev main_while0b_v32 : Ref sig .tc := ⟨.hbm, 101, rfl⟩
abbrev main_while0b_v33 : Ref sig .tc := ⟨.hbm, 102, rfl⟩
abbrev main_while0b_v34 : Ref sig .tc := ⟨.hbm, 103, rfl⟩
abbrev main_while0b_v35 : Ref sig .tc := ⟨.hbm, 104, rfl⟩
abbrev main_while0b_cst_33 : Ref sig .tc := ⟨.hbm, 105, rfl⟩
abbrev main_while0b_v36 : Ref sig .tc := ⟨.hbm, 106, rfl⟩
abbrev main_while0b_v37 : Ref sig .tc := ⟨.hbm, 107, rfl⟩
abbrev main_while0b_cst_34 : Ref sig .tc := ⟨.hbm, 108, rfl⟩
abbrev main_while0b_v38 : Ref sig .tc := ⟨.hbm, 109, rfl⟩
abbrev main_while0b_v39 : Ref sig .tc := ⟨.hbm, 110, rfl⟩
abbrev main_while0b_v40 : Ref sig .tc := ⟨.hbm, 111, rfl⟩
abbrev main_while0b_v41 : Ref sig .tc := ⟨.hbm, 112, rfl⟩
abbrev main_while0b_v42 : Ref sig .tc := ⟨.hbm, 113, rfl⟩
abbrev main_while0b_cst_35 : Ref sig .tc := ⟨.hbm, 114, rfl⟩
abbrev main_while0b_v43 : Ref sig .tc := ⟨.hbm, 115, rfl⟩
abbrev main_while0b_v44 : Ref sig .tc := ⟨.hbm, 116, rfl⟩
abbrev main_while0b_cst_36 : Ref sig .tc := ⟨.hbm, 117, rfl⟩
abbrev main_while0b_v45 : Ref sig .tc := ⟨.hbm, 118, rfl⟩
abbrev main_while0b_v46 : Ref sig .tc := ⟨.hbm, 119, rfl⟩
abbrev main_while0b_v47 : Ref sig .tc := ⟨.hbm, 120, rfl⟩
abbrev main_while0b_v48 : Ref sig .tc := ⟨.hbm, 121, rfl⟩
abbrev main_while0b_v49 : Ref sig .tc := ⟨.hbm, 122, rfl⟩
abbrev main_while0b_v50 : Ref sig .tc := ⟨.hbm, 123, rfl⟩
abbrev main_while0b_v51 : Ref sig .tc := ⟨.hbm, 124, rfl⟩
abbrev main_while0b_cst_37 : Ref sig .tc := ⟨.hbm, 125, rfl⟩
abbrev main_while0b_v52 : Ref sig .tc := ⟨.hbm, 126, rfl⟩
abbrev main_while0b_v53 : Ref sig .tc := ⟨.hbm, 127, rfl⟩
abbrev main_while0b_cst_38 : Ref sig .tc := ⟨.hbm, 128, rfl⟩
abbrev main_while0b_v54 : Ref sig .tc := ⟨.hbm, 129, rfl⟩
abbrev main_while0b_v55 : Ref sig .tc := ⟨.hbm, 130, rfl⟩
abbrev main_while0b_v56 : Ref sig .tc := ⟨.hbm, 131, rfl⟩
abbrev main_while0b_v57 : Ref sig .tc := ⟨.hbm, 132, rfl⟩
abbrev main_while0b_v58 : Ref sig .tc := ⟨.hbm, 133, rfl⟩
abbrev main_while0b_v59 : Ref sig .tc := ⟨.hbm, 134, rfl⟩
abbrev main_while0b_v60 : Ref sig .tc := ⟨.hbm, 135, rfl⟩
abbrev main_while0b_v61 : Ref sig .tc := ⟨.hbm, 136, rfl⟩
abbrev main_while0b_v62 : Ref sig .tc := ⟨.hbm, 137, rfl⟩
abbrev main_while0b_v63 : Ref sig .tc := ⟨.hbm, 138, rfl⟩
abbrev main_while0b_v64 : Ref sig .tc := ⟨.hbm, 139, rfl⟩
abbrev main_while0b_v65 : Ref sig .tc := ⟨.hbm, 140, rfl⟩
abbrev main_while0b_v66 : Ref sig .tc := ⟨.hbm, 141, rfl⟩
abbrev main_while0b_v67 : Ref sig .tc := ⟨.hbm, 142, rfl⟩
abbrev main_while0b_v68 : Ref sig .tc := ⟨.hbm, 143, rfl⟩
abbrev main_while0b_call2_cst : Ref sig .tc := ⟨.hbm, 144, rfl⟩
abbrev main_while0b_call2_v0 : Ref sig .tc := ⟨.hbm, 145, rfl⟩
abbrev main_while0b_call2_cst_0 : Ref sig .tc := ⟨.hbm, 146, rfl⟩
abbrev main_while0b_call2_v1 : Ref sig .tc := ⟨.hbm, 147, rfl⟩
abbrev main_while0b_call2_v2 : Ref sig .tc := ⟨.hbm, 148, rfl⟩
abbrev main_while0b_call2_v3 : Ref sig .tc := ⟨.hbm, 149, rfl⟩
abbrev main_while0b_call2_v4 : Ref sig .tc := ⟨.hbm, 150, rfl⟩
abbrev main_while0b_call2_v5 : Ref sig .tc := ⟨.hbm, 151, rfl⟩
abbrev main_while0b_call2_v6 : Ref sig .tc := ⟨.hbm, 152, rfl⟩
abbrev main_while0b_call2_cst_1 : Ref sig .tc := ⟨.hbm, 153, rfl⟩
abbrev main_while0b_call2_v7 : Ref sig .tc := ⟨.hbm, 154, rfl⟩
abbrev main_while0b_call2_v8 : Ref sig .tc := ⟨.hbm, 155, rfl⟩
abbrev main_while0b_call2_v9 : Ref sig .tc := ⟨.hbm, 156, rfl⟩
abbrev main_while0b_call2_v10 : Ref sig .tc := ⟨.hbm, 157, rfl⟩
abbrev main_while0b_v69 : Ref sig .tc := ⟨.hbm, 158, rfl⟩
abbrev main_while0b_call3_v0 : Ref sig .tc := ⟨.hbm, 159, rfl⟩
abbrev main_while0b_call3_cst : Ref sig .tc := ⟨.hbm, 160, rfl⟩
abbrev main_while0b_call3_c : Ref sig .tc := ⟨.hbm, 161, rfl⟩
abbrev main_while0b_call3_v1_0 : Ref sig .tc := ⟨.hbm, 162, rfl⟩
abbrev main_while0b_v70 : Ref sig .tc := ⟨.hbm, 163, rfl⟩
abbrev main_while0b_c_39 : Ref sig .tc := ⟨.hbm, 164, rfl⟩
abbrev main_while0b_v71 : Ref sig .tc := ⟨.hbm, 165, rfl⟩
abbrev main_while0b_v72 : Ref sig .tc := ⟨.hbm, 166, rfl⟩
abbrev main_while0b_v73 : Ref sig .tc := ⟨.hbm, 167, rfl⟩
abbrev main_while0b_v74 : Ref sig .tc := ⟨.hbm, 168, rfl⟩
abbrev main_while0b_call4_v0 : Ref sig .tc := ⟨.hbm, 169, rfl⟩
abbrev main_while0b_v75 : Ref sig .tc := ⟨.hbm, 170, rfl⟩
abbrev main_while0b_call5_v0 : Ref sig .tc := ⟨.hbm, 171, rfl⟩
abbrev main_while0b_v76 : Ref sig .tc := ⟨.hbm, 172, rfl⟩
abbrev main_while0b_v77 : Ref sig .tc := ⟨.hbm, 173, rfl⟩
abbrev main_while0b_c_40 : Ref sig .tc := ⟨.hbm, 174, rfl⟩
abbrev main_while0b_call7_v0 : Ref sig .tc := ⟨.hbm, 175, rfl⟩
abbrev main_while0b_v78 : Ref sig .tc := ⟨.hbm, 176, rfl⟩
abbrev main_while0b_v79 : Ref sig .tc := ⟨.hbm, 177, rfl⟩
abbrev main_while0b_call8_c : Ref sig .tc := ⟨.hbm, 178, rfl⟩
abbrev main_while0b_call8_v0 : Ref sig .tc := ⟨.hbm, 179, rfl⟩
abbrev main_while0b_call8_v1 : Ref sig .tc := ⟨.hbm, 180, rfl⟩
abbrev main_while0b_call8_c_0 : Ref sig .tc := ⟨.hbm, 181, rfl⟩
abbrev main_while0b_call8_v2 : Ref sig .tc := ⟨.hbm, 182, rfl⟩
abbrev main_while0b_call8_v3 : Ref sig .tc := ⟨.hbm, 183, rfl⟩
abbrev main_while0b_call8_v4 : Ref sig .tc := ⟨.hbm, 184, rfl⟩
abbrev main_while0b_call8_v5 : Ref sig .tc := ⟨.hbm, 185, rfl⟩
abbrev main_while0b_call8_c_1 : Ref sig .tc := ⟨.hbm, 186, rfl⟩
abbrev main_while0b_call8_c_2 : Ref sig .tc := ⟨.hbm, 187, rfl⟩
abbrev main_while0b_call8_v6 : Ref sig .tc := ⟨.hbm, 188, rfl⟩
abbrev main_while0b_call8_v7 : Ref sig .tc := ⟨.hbm, 189, rfl⟩
abbrev main_while0b_call8_v8 : Ref sig .tc := ⟨.hbm, 190, rfl⟩
abbrev main_while0b_call8_v9 : Ref sig .tc := ⟨.hbm, 191, rfl⟩
abbrev main_while0b_call8_v10 : Ref sig .tc := ⟨.hbm, 192, rfl⟩
abbrev main_while0b_call8_v11 : Ref sig .tc := ⟨.hbm, 193, rfl⟩
abbrev main_while0b_call8_c_3 : Ref sig .tc := ⟨.hbm, 194, rfl⟩
abbrev main_while0b_call8_v12 : Ref sig .tc := ⟨.hbm, 195, rfl⟩
abbrev main_while0b_call8_v13 : Ref sig .tc := ⟨.hbm, 196, rfl⟩
abbrev main_while0b_call8_cst : Ref sig .tc := ⟨.hbm, 197, rfl⟩
abbrev main_while0b_call8_v14 : Ref sig .tc := ⟨.hbm, 198, rfl⟩
abbrev main_while0b_v80 : Ref sig .tc := ⟨.hbm, 199, rfl⟩
abbrev main_while0b_v81 : Ref sig .tc := ⟨.hbm, 200, rfl⟩
abbrev main_while0b_call9_v0 : Ref sig .tc := ⟨.hbm, 201, rfl⟩
abbrev main_while0b_call9_c : Ref sig .tc := ⟨.hbm, 202, rfl⟩
abbrev main_while0b_v82 : Ref sig .tc := ⟨.hbm, 203, rfl⟩
abbrev main_while0b_call10_v0 : Ref sig .tc := ⟨.hbm, 204, rfl⟩
abbrev main_while0b_call10_c : Ref sig .tc := ⟨.hbm, 205, rfl⟩
abbrev main_while0b_v83 : Ref sig .tc := ⟨.hbm, 206, rfl⟩
abbrev main_while0b_c_41 : Ref sig .tc := ⟨.hbm, 207, rfl⟩
abbrev main_while0b_v84 : Ref sig .tc := ⟨.hbm, 208, rfl⟩
abbrev main_v7 : Ref sig .tc := ⟨.hbm, 209, rfl⟩
abbrev main_v8 : Ref sig .tc := ⟨.hbm, 210, rfl⟩

abbrev nD : Nat := 1
abbrev τ : Topo := Topo.v7x

variable {F : FTy → Type} [FloatOps F]

abbrev main_while0_count : Scf.Loop 32 := ⟨0#32, 512#32, 1#32⟩
-- ==== Proof.RefFrame.lean ====
/- The reference's arguments end as they began: no stretch of host operations before, in or after its loop writes
   an argument's buffer, so the fold that its run ends at reads each argument back from the launch. -/
module

public import proofs.«01_k».proof.Proof.Gen.ReferenceIdeal.Run
public import Idealize.ShloMosaic.Lib.Quiescent
public import Idealize.ShloMosaic.Lib.StableHlo.RunHlo

@[expose] public section

set_option maxRecDepth 4000

noncomputable section

namespace Cert.ReferenceIdeal.Own

open Idealize.ShloMosaic Idealize.ShloMosaic.TcCoe Idealize.SL.Sem
open Idealize.ShloMosaic.StableHlo
open Cert.ReferenceIdeal.Gen Cert.ReferenceIdeal.Value

variable {F : FTy → Type} [FloatOps F]

/-- Every buffer that one trip's condition and body write. -/
def tripW : List (Ref sig .tc) :=
  condOps_W ++ (while0Ops0_W ++ (while0Ops0_1_W ++ (while0Ops0_2_W ++ (while0Ops0_3_W ++ (while0Ops0_4_W ++ (while0Ops0_5_W ++ (while0Ops0_6_W ++ (while0Ops0_7_W ++ (while0Ops0_8_W ++ (while0Ops0_9_W ++ (while0Ops0_10_W ++ (while0Ops0_11_W ++ (while0Ops0_12_W ++ (while0Ops0_13_W ++ (while0Ops0_14_W ++ (while0Ops0_15_W ++ (while0Ops0_16_W ++ (while0Ops0_17_W))))))))))))))))))

/-- A buffer which no stretch of a trip writes is after the trip as it was before. -/
theorem trip_keeps (V : Valuation τ sig (Elt F)) (r : Ref sig .tc) (hr : r ∉ tripW) :
    afterL bodyI (after condOps V) (Proc.devRef .tc r) = V (Proc.devRef .tc r) := by
  simp only [tripW, List.mem_append, not_or] at hr
  simp only [afterL_cons, afterL_nil]
  obtain ⟨h, h0, h1, h2, h3, h4, h5, h6, h7, h8, h9, h10, h11, h12, h13, h14, h15, h16, h17⟩ := hr
  rw [after_of_writes_sub while0Ops0_17 _ while0Ops0_17_writes h17, after_of_writes_sub while0Ops0_16 _ while0Ops0_16_writes h16, after_of_writes_sub while0Ops0_15 _ while0Ops0_15_writes h15, after_of_writes_sub while0Ops0_14 _ while0Ops0_14_writes h14, after_of_writes_sub while0Ops0_13 _ while0Ops0_13_writes h13, after_of_writes_sub while0Ops0_12 _ while0Ops0_12_writes h12, after_of_writes_sub while0Ops0_11 _ while0Ops0_11_writes h11, after_of_writes_sub while0Ops0_10 _ while0Ops0_10_writes h10, after_of_writes_sub while0Ops0_9 _ while0Ops0_9_writes h9, after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, after_of_writes_sub condOps _ condOps_writes h]

variable (m : (ℓ : Loc nD τ sig) → Buf (Elt F) ℓ) (ρ : Dev nD → PrngReg)

/-- Such a buffer holds at every trip what it held at the loop's entry. -/
theorem atK_keeps (c : Dev nD) (r : Ref sig .tc) (hr : r ∉ tripW) :
    ∀ k, atK m k c (Proc.devRef .tc r) = entryContents preI m c (Proc.devRef .tc r)
  | 0 => rfl
  | k + 1 => by
    rw [show atK m (k + 1) c = afterL bodyI (after condOps (atK m k c)) from rfl, trip_keeps _ r hr, atK_keeps c r hr k]

/-- A buffer that the whole program leaves alone ends as it was launched. -/
theorem final_keeps (c : Dev nD) (r : Ref sig .tc) (hr : r ∉ tripW) (h0 : r ∉ hostOps0_W) (h1 : r ∉ hostOps0_1_W) :
    finalContents condOps preI bodyI postI 512 m c (Proc.devRef .tc r) = m ((c.tc : Thread nD τ).loc r) := by
  have hc : r ∉ condOps_W := fun h => hr (by unfold tripW; exact List.mem_append_left _ h)
  show afterL [hostOps0_1] (after condOps (atK m 512 c)) (Proc.devRef .tc r) = _
  simp only [afterL_cons, afterL_nil]
  rw [after_of_writes_sub hostOps0_1 _ hostOps0_1_writes h1, after_of_writes_sub condOps _ condOps_writes hc,
    atK_keeps m c r hr 512]
  show afterL [hostOps0] (launchContents m c) (Proc.devRef .tc r) = _
  simp only [afterL_cons, afterL_nil]
  rw [after_of_writes_sub hostOps0 _ hostOps0_writes h0]

/-- The reference's frame: it terminates, nothing faulting, with its arguments as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Idealize.ShloMosaic.θ_run_mono (run_fold m ρ) (fun r h => ⟨fun c => ⟨(h c main_arg0 (by decide)).trans (final_keeps m c main_arg0 (by decide +kernel) (by decide +kernel) (by decide +kernel)),
    (h c main_arg1 (by decide)).trans (final_keeps m c main_arg1 (by decide +kernel) (by decide +kernel) (by decide +kernel)),
    (h c main_arg2 (by decide)).trans (final_keeps m c main_arg2 (by decide +kernel) (by decide +kernel) (by decide +kernel)),
    (h c main_arg3 (by decide)).trans (final_keeps m c main_arg3 (by decide +kernel) (by decide +kernel) (by decide +kernel)),
    (h c main_arg4 (by decide)).trans (final_keeps m c main_arg4 (by decide +kernel) (by decide +kernel) (by decide +kernel)),
    (h c main_arg5 (by decide)).trans (final_keeps m c main_arg5 (by decide +kernel) (by decide +kernel) (by decide +kernel)),
    (h c main_arg6 (by decide)).trans (final_keeps m c main_arg6 (by decide +kernel) (by decide +kernel) (by decide +kernel)),
    (h c main_arg7 (by decide)).trans (final_keeps m c main_arg7 (by decide +kernel) (by decide +kernel) (by decide +kernel)),
    (h c main_arg8 (by decide)).trans (final_keeps m c main_arg8 (by decide +kernel) (by decide +kernel) (by decide +kernel)),
    (h c main_arg9 (by decide)).trans (final_keeps m c main_arg9 (by decide +kernel) (by decide +kernel) (by decide +kernel)),
    (h c main_arg10 (by decide)).trans (final_keeps m c main_arg10 (by decide +kernel) (by decide +kernel) (by decide +kernel))⟩,
    sem_eq_zero_of_no_sems (by decide) r.2⟩)

end Cert.ReferenceIdeal.Own

end
-- ==== Proof.RefStages.lean ====
/- The stages of one trip of the reference's loop, and that a stage leaves what its stretch does not write. -/
module

public import proofs.«01_k».proof.Proof.Gen.ReferenceIdeal.Run
public import Idealize.ShloMosaic.Lib.StableHlo.RunHlo
public import Idealize.ShloMosaic.PureOps.Ideal

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value

variable (V : Valuation τ sig (Elt Ideal))

/-- After the condition. -/
def X0 : Valuation τ sig (Elt Ideal) := after (condOps (F := Ideal)) V
/-- After stretch 0 of the body. -/
def X1 : Valuation τ sig (Elt Ideal) := after (while0Ops0 (F := Ideal)) (X0 V)
/-- After stretch 1 of the body. -/
def X2 : Valuation τ sig (Elt Ideal) := after (while0Ops0_1 (F := Ideal)) (X1 V)
/-- After stretch 2 of the body. -/
def X3 : Valuation τ sig (Elt Ideal) := after (while0Ops0_2 (F := Ideal)) (X2 V)
/-- After stretch 3 of the body. -/
def X4 : Valuation τ sig (Elt Ideal) := after (while0Ops0_3 (F := Ideal)) (X3 V)
/-- After stretch 4 of the body. -/
def X5 : Valuation τ sig (Elt Ideal) := after (while0Ops0_4 (F := Ideal)) (X4 V)
/-- After stretch 5 of the body. -/
def X6 : Valuation τ sig (Elt Ideal) := after (while0Ops0_5 (F := Ideal)) (X5 V)
/-- After stretch 6 of the body. -/
def X7 : Valuation τ sig (Elt Ideal) := after (while0Ops0_6 (F := Ideal)) (X6 V)
/-- After stretch 7 of the body. -/
def X8 : Valuation τ sig (Elt Ideal) := after (while0Ops0_7 (F := Ideal)) (X7 V)
/-- After stretch 8 of the body. -/
def X9 : Valuation τ sig (Elt Ideal) := after (while0Ops0_8 (F := Ideal)) (X8 V)
/-- After stretch 9 of the body. -/
def X10 : Valuation τ sig (Elt Ideal) := after (while0Ops0_9 (F := Ideal)) (X9 V)
/-- After stretch 10 of the body. -/
def X11 : Valuation τ sig (Elt Ideal) := after (while0Ops0_10 (F := Ideal)) (X10 V)
/-- After stretch 11 of the body. -/
def X12 : Valuation τ sig (Elt Ideal) := after (while0Ops0_11 (F := Ideal)) (X11 V)
/-- After stretch 12 of the body. -/
def X13 : Valuation τ sig (Elt Ideal) := after (while0Ops0_12 (F := Ideal)) (X12 V)
/-- After stretch 13 of the body. -/
def X14 : Valuation τ sig (Elt Ideal) := after (while0Ops0_13 (F := Ideal)) (X13 V)
/-- After stretch 14 of the body. -/
def X15 : Valuation τ sig (Elt Ideal) := after (while0Ops0_14 (F := Ideal)) (X14 V)
/-- After stretch 15 of the body. -/
def X16 : Valuation τ sig (Elt Ideal) := after (while0Ops0_15 (F := Ideal)) (X15 V)
/-- After stretch 16 of the body. -/
def X17 : Valuation τ sig (Elt Ideal) := after (while0Ops0_16 (F := Ideal)) (X16 V)
/-- After stretch 17 of the body. -/
def X18 : Valuation τ sig (Elt Ideal) := after (while0Ops0_17 (F := Ideal)) (X17 V)

theorem trip_eq : afterL bodyI (after condOps V) = X18 V := rfl

variable {V}

theorem keep0 {r : Ref sig .tc} (h : r ∉ condOps_W := by decide +kernel) : X0 V (Proc.devRef .tc r) = V (Proc.devRef .tc r) :=
  after_of_writes_sub (condOps (F := Ideal)) _ condOps_writes h
theorem keep1 {r : Ref sig .tc} (h : r ∉ while0Ops0_W := by decide +kernel) : X1 V (Proc.devRef .tc r) = X0 V (Proc.devRef .tc r) :=
  after_of_writes_sub (while0Ops0 (F := Ideal)) _ while0Ops0_writes h
theorem keep2 {r : Ref sig .tc} (h : r ∉ while0Ops0_1_W := by decide +kernel) : X2 V (Proc.devRef .tc r) = X1 V (Proc.devRef .tc r) :=
  after_of_writes_sub (while0Ops0_1 (F := Ideal)) _ while0Ops0_1_writes h
theorem keep3 {r : Ref sig .tc} (h : r ∉ while0Ops0_2_W := by decide +kernel) : X3 V (Proc.devRef .tc r) = X2 V (Proc.devRef .tc r) :=
  after_of_writes_sub (while0Ops0_2 (F := Ideal)) _ while0Ops0_2_writes h
theorem keep4 {r : Ref sig .tc} (h : r ∉ while0Ops0_3_W := by decide +kernel) : X4 V (Proc.devRef .tc r) = X3 V (Proc.devRef .tc r) :=
  after_of_writes_sub (while0Ops0_3 (F := Ideal)) _ while0Ops0_3_writes h
theorem keep5 {r : Ref sig .tc} (h : r ∉ while0Ops0_4_W := by decide +kernel) : X5 V (Proc.devRef .tc r) = X4 V (Proc.devRef .tc r) :=
  after_of_writes_sub (while0Ops0_4 (F := Ideal)) _ while0Ops0_4_writes h
theorem keep6 {r : Ref sig .tc} (h : r ∉ while0Ops0_5_W := by decide +kernel) : X6 V (Proc.devRef .tc r) = X5 V (Proc.devRef .tc r) :=
  after_of_writes_sub (while0Ops0_5 (F := Ideal)) _ while0Ops0_5_writes h
theorem keep7 {r : Ref sig .tc} (h : r ∉ while0Ops0_6_W := by decide +kernel) : X7 V (Proc.devRef .tc r) = X6 V (Proc.devRef .tc r) :=
  after_of_writes_sub (while0Ops0_6 (F := Ideal)) _ while0Ops0_6_writes h
theorem keep8 {r : Ref sig .tc} (h : r ∉ while0Ops0_7_W := by decide +kernel) : X8 V (Proc.devRef .tc r) = X7 V (Proc.devRef .tc r) :=
  after_of_writes_sub (while0Ops0_7 (F := Ideal)) _ while0Ops0_7_writes h
theorem keep9 {r : Ref sig .tc} (h : r ∉ while0Ops0_8_W := by decide +kernel) : X9 V (Proc.devRef .tc r) = X8 V (Proc.devRef .tc r) :=
  after_of_writes_sub (while0Ops0_8 (F := Ideal)) _ while0Ops0_8_writes h
theorem keep10 {r : Ref sig .tc} (h : r ∉ while0Ops0_9_W := by decide +kernel) : X10 V (Proc.devRef .tc r) = X9 V (Proc.devRef .tc r) :=
  after_of_writes_sub (while0Ops0_9 (F := Ideal)) _ while0Ops0_9_writes h
theorem keep11 {r : Ref sig .tc} (h : r ∉ while0Ops0_10_W := by decide +kernel) : X11 V (Proc.devRef .tc r) = X10 V (Proc.devRef .tc r) :=
  after_of_writes_sub (while0Ops0_10 (F := Ideal)) _ while0Ops0_10_writes h
theorem keep12 {r : Ref sig .tc} (h : r ∉ while0Ops0_11_W := by decide +kernel) : X12 V (Proc.devRef .tc r) = X11 V (Proc.devRef .tc r) :=
  after_of_writes_sub (while0Ops0_11 (F := Ideal)) _ while0Ops0_11_writes h
theorem keep13 {r : Ref sig .tc} (h : r ∉ while0Ops0_12_W := by decide +kernel) : X13 V (Proc.devRef .tc r) = X12 V (Proc.devRef .tc r) :=
  after_of_writes_sub (while0Ops0_12 (F := Ideal)) _ while0Ops0_12_writes h
theorem keep14 {r : Ref sig .tc} (h : r ∉ while0Ops0_13_W := by decide +kernel) : X14 V (Proc.devRef .tc r) = X13 V (Proc.devRef .tc r) :=
  after_of_writes_sub (while0Ops0_13 (F := Ideal)) _ while0Ops0_13_writes h
theorem keep15 {r : Ref sig .tc} (h : r ∉ while0Ops0_14_W := by decide +kernel) : X15 V (Proc.devRef .tc r) = X14 V (Proc.devRef .tc r) :=
  after_of_writes_sub (while0Ops0_14 (F := Ideal)) _ while0Ops0_14_writes h
theorem keep16 {r : Ref sig .tc} (h : r ∉ while0Ops0_15_W := by decide +kernel) : X16 V (Proc.devRef .tc r) = X15 V (Proc.devRef .tc r) :=
  after_of_writes_sub (while0Ops0_15 (F := Ideal)) _ while0Ops0_15_writes h
theorem keep17 {r : Ref sig .tc} (h : r ∉ while0Ops0_16_W := by decide +kernel) : X17 V (Proc.devRef .tc r) = X16 V (Proc.devRef .tc r) :=
  after_of_writes_sub (while0Ops0_16 (F := Ideal)) _ while0Ops0_16_writes h
theorem keep18 {r : Ref sig .tc} (h : r ∉ while0Ops0_17_W := by decide +kernel) : X18 V (Proc.devRef .tc r) = X17 V (Proc.devRef .tc r) :=
  after_of_writes_sub (while0Ops0_17 (F := Ideal)) _ while0Ops0_17_writes h

end Cert.ReferenceIdeal.Own
-- ==== Proof.Spec.lean ====
/- The decoder's mathematics, one batch row at a time and by plain coordinates: the gates of the prediction
   network's recurrent cell, the joint network's logits, the first of the largest logits, its log-probability,
   and the row's state after each time step. Both programs are read against this. -/
module

public import Idealize.ShloMosaic.PureOps.Ideal
public import Idealize.ShloMosaic.PureOps.Ideal.Laws

@[expose] public section

noncomputable section

namespace Decoder

open Idealize.ShloMosaic

/-- The inputs, by coordinates. -/
structure Par where
  /-- The encoder's output by batch row, time and feature. -/
  enc : Fin 16 → Fin 512 → Fin 512 → EReal
  /-- Each batch row's number of steps. -/
  lens : Fin 16 → BitVec 32
  /-- The embedding table. -/
  emb : Fin 1024 → Fin 320 → EReal
  /-- The cell's weights of its input. -/
  wih : Fin 320 → Fin 1280 → EReal
  /-- The cell's weights of its hidden state. -/
  whh : Fin 320 → Fin 1280 → EReal
  /-- The cell's bias. -/
  bl : Fin 1280 → EReal
  /-- The joint network's weights of the encoder's output. -/
  wenc : Fin 512 → Fin 320 → EReal
  /-- The joint network's weights of the prediction network's output. -/
  wp : Fin 320 → Fin 320 → EReal
  /-- The joint network's bias. -/
  bj : Fin 320 → EReal
  /-- The output weights. -/
  wo : Fin 320 → Fin 1024 → EReal
  /-- The output bias. -/
  bo : Fin 1024 → EReal

/-- One batch row's state: the hidden state, the cell's state and the last label. -/
structure St where
  /-- The hidden state. -/
  h : Fin 320 → EReal
  /-- The cell's state. -/
  c : Fin 320 → EReal
  /-- The last label. -/
  lab : Fin 1024

/-- `s` is the first place at which `f` is largest. -/
def IsBest (f : Fin 1024 → EReal) (s : Fin 1024) : Prop := (∀ i, f i ≤ f s) ∧ ∀ i, i < s → f i < f s

/-- There is a first place at which `f` is largest. -/
theorem exists_best (f : Fin 1024 → EReal) : ∃ s, IsBest f s := by
  classical
  obtain ⟨a, -, ha⟩ := Finset.exists_max_image Finset.univ f ⟨0, Finset.mem_univ _⟩
  have hne : (Finset.univ.filter fun i => f i = f a).Nonempty := ⟨a, by simp⟩
  refine ⟨(Finset.univ.filter fun i => f i = f a).min' hne, ?_⟩
  have hm := (Finset.univ.filter fun i => f i = f a).min'_mem hne
  simp only [Finset.mem_filter, Finset.mem_univ, true_and] at hm
  refine ⟨fun i => hm.symm ▸ ha i (Finset.mem_univ i), fun i hi => ?_⟩
  rcases lt_or_eq_of_le (ha i (Finset.mem_univ i)) with hlt | heq
  · exact hm.symm ▸ hlt
  · exact absurd ((Finset.univ.filter fun i => f i = f a).min'_le i (by simp [heq])) (not_le.2 hi)

/-- The first place at which `f` is largest is one place. -/
theorem IsBest.unique {f : Fin 1024 → EReal} {s t : Fin 1024} (hs : IsBest f s) (ht : IsBest f t) : s = t := by
  rcases lt_trichotomy s t with h | h | h
  · exact absurd (hs.1 t) (not_le.2 (ht.2 s h))
  · exact h
  · exact absurd (ht.1 s) (not_le.2 (hs.2 t h))

/-- The first place at which `f` is largest. -/
def best (f : Fin 1024 → EReal) : Fin 1024 := (exists_best f).choose

theorem best_spec (f : Fin 1024 → EReal) : IsBest f (best f) := (exists_best f).choose_spec

theorem IsBest.eq_best {f : Fin 1024 → EReal} {s : Fin 1024} (hs : IsBest f s) : s = best f :=
  hs.unique (best_spec f)

/-- The largest of all the values is the one at the first place of the largest. -/
theorem fold_max_best (f : Fin 1024 → EReal) : (Finset.univ : Finset (Fin 1024)).fold max ⊥ f = f (best f) := by
  apply le_antisymm
  · exact Finset.fold_max_le _ |>.2 ⟨bot_le, fun v _ => (best_spec f).1 v⟩
  · exact Finset.le_fold_max _ |>.2 (.inr ⟨best f, Finset.mem_univ _, le_rfl⟩)

/-- The place of a joint unit among the cell's 1280 gate values, `o` units on. -/
def at320 (o : ℕ) (j : Fin 320) (h : o + 320 ≤ 1280 := by omega) : Fin 1280 := ⟨o + j.val, by omega⟩

section
variable (p : Par)

/-- The cell's gate values. -/
def gate (s : St) (j : Fin 1280) : EReal :=
  (∑ k, p.emb s.lab k * p.wih k j + ∑ k, s.h k * p.whh k j) + p.bl j

/-- The cell's next state. -/
def cNew (s : St) (j : Fin 320) : EReal :=
  Ideal.logistic (gate p s (at320 320 j)) * s.c j
    + Ideal.logistic (gate p s (at320 0 j)) * Ideal.tanh (gate p s (at320 640 j))

/-- The next hidden state. -/
def hNew (s : St) (j : Fin 320) : EReal :=
  Ideal.logistic (gate p s (at320 960 j)) * Ideal.tanh (cNew p s j)

/-- The joint network's hidden values at one time. -/
def joint (e : Fin 512 → EReal) (s : St) (j : Fin 320) : EReal :=
  Ideal.tanh ((∑ d, e d * p.wenc d j + ∑ k, hNew p s k * p.wp k j) + p.bj j)

/-- The logits at one time. -/
def logit (e : Fin 512 → EReal) (s : St) (v : Fin 1024) : EReal := ∑ j, joint p e s j * p.wo j v + p.bo v

/-- The symbol of one time: the first of the largest logits. -/
def sym (e : Fin 512 → EReal) (s : St) : Fin 1024 := best (logit p e s)

/-- The symbol's log-probability. -/
def score (e : Fin 512 → EReal) (s : St) : EReal :=
  - Ideal.log (∑ v, Ideal.exp (logit p e s v - logit p e s (sym p e s)))

/-- Whether the step emits nothing: past the row's steps, or at the blank symbol. -/
def blank (e : Fin 512 → EReal) (n : BitVec 32) (t : ℕ) (s : St) : Prop := n.toInt ≤ (t : ℤ) ∨ sym p e s = 0

open Classical in
/-- The row's state after one step. -/
def next (e : Fin 512 → EReal) (n : BitVec 32) (t : ℕ) (s : St) : St :=
  if blank p e n t s then s else ⟨hNew p s, cNew p s, sym p e s⟩

/-- The encoder's output of one row at a time given as a natural number. -/
def encAt (b : Fin 16) (t : ℕ) : Fin 512 → EReal := p.enc b (Fin.ofNat 512 t)

/-- The row's state before each step. -/
def state (b : Fin 16) : ℕ → St
  | 0 => ⟨fun _ => 0, fun _ => 0, 0⟩
  | t + 1 => next p (encAt p b t) (p.lens b) t (state b t)

open Classical in
/-- The label that a step emits. -/
def outLab (b : Fin 16) (t : ℕ) : BitVec 32 :=
  if blank p (encAt p b t) (p.lens b) t (state p b t) then 0#32
  else BitVec.ofNat 32 (sym p (encAt p b t) (state p b t)).val

/-- The score that a step emits. -/
def outScore (b : Fin 16) (t : ℕ) : EReal := score p (encAt p b t) (state p b t)

/-- The output weights and the output bias are real numbers. -/
def Real : Prop := (∀ j v, ∃ r : ℝ, p.wo j v = r) ∧ ∀ v, ∃ r : ℝ, p.bo v = r

end

/-- The hyperbolic tangent of anything is a real number. -/
theorem tanh_real (x : EReal) : ∃ r : ℝ, Ideal.tanh x = r := by
  induction x using EReal.rec with
  | bot => exact ⟨-1, by simp⟩
  | coe r => exact ⟨Real.tanh r, rfl⟩
  | top => exact ⟨1, by simp⟩

/-- A sum of real numbers is the real number of the sum. -/
theorem coe_sum' {n : ℕ} (f : Fin n → ℝ) : ((∑ i, f i : ℝ) : EReal) = ∑ i, (f i : EReal) :=
  map_sum (⟨⟨Real.toEReal, rfl⟩, EReal.coe_add⟩ : ℝ →+ EReal) f Finset.univ

/-- Where the output weights and bias are real numbers so are the logits. -/
theorem logit_real {p : Par} (hp : Decoder.Real p) (e : Fin 512 → EReal) (s : St) :
    ∃ r : Fin 1024 → ℝ, ∀ v, logit p e s v = r v := by
  choose w hw using hp.1
  choose b hb using hp.2
  choose t ht using fun j => tanh_real ((∑ d, e d * p.wenc d j + ∑ k, hNew p s k * p.wp k j) + p.bj j)
  refine ⟨fun v => (∑ j, t j * w j v) + b v, fun v => ?_⟩
  rw [EReal.coe_add, coe_sum', logit, hb]
  simp only [joint, ht, hw, EReal.coe_mul]

/-- The sum of exponentials of real numbers, one of which is at zero, has a real logarithm. -/
theorem logsum_real {f : Fin 1024 → EReal} {r : Fin 1024 → ℝ} (hf : ∀ v, f v = r v) (s : Fin 1024) :
    ∃ l : ℝ, Ideal.log (∑ v, Ideal.exp (f v - f s)) = l := by
  have hsum : (∑ v, Ideal.exp (f v - f s)) = ((∑ v, Real.exp (r v - r s) : ℝ) : EReal) := by
    rw [coe_sum']
    refine Finset.sum_congr rfl fun v _ => ?_
    rw [hf, hf, ← EReal.coe_sub, Ideal.exp_coe]
  have hpos : ¬ (∑ v, Real.exp (r v - r s) : ℝ) ≤ 0 :=
    not_le.2 (Finset.sum_pos (fun v _ => Real.exp_pos _) ⟨0, Finset.mem_univ _⟩)
  exact ⟨Real.log (∑ v, Real.exp (r v - r s)), by rw [hsum, Ideal.log_coe, if_neg hpos]⟩

/-- Taking one real number from every value moves no first largest place. -/
theorem best_shift {f : Fin 1024 → EReal} {r : Fin 1024 → ℝ} (hf : ∀ v, f v = r v) (m l : ℝ) :
    best (fun v => (f v - (m : EReal)) - (l : EReal)) = best f := by
  symm
  apply IsBest.eq_best
  have h := best_spec f
  have e : ∀ v, (f v - (m : EReal)) - (l : EReal) = ((r v - m - l : ℝ) : EReal) := fun v => by
    rw [hf, EReal.coe_sub, EReal.coe_sub]
  refine ⟨fun i => ?_, fun i hi => ?_⟩
  · have := h.1 i
    rw [hf, hf, EReal.coe_le_coe_iff] at this
    simp only [e]
    rw [EReal.coe_le_coe_iff]; linarith
  · have := h.2 i hi
    rw [hf, hf, EReal.coe_lt_coe_iff] at this
    simp only [e]
    rw [EReal.coe_lt_coe_iff]; linarith

end Decoder
-- ==== Proof.RefCell.lean ====
/- The reference's recurrent cell and joint network as functions of the vectors they read, and what each holds at a
   batch row: the row's gate values, next states and logits. -/
module

public import proofs.«01_k».proof.Proof.Gen.ReferenceIdeal
public import proofs.«01_k».proof.Proof.Spec
public import Idealize.ShloMosaic.Lib.Pointwise
public import Idealize.ShloMosaic.Lib.IdealHost

@[expose] public section

set_option maxRecDepth 16384

noncomputable section

namespace Cert.ReferenceIdeal.Own

open Idealize.ShloMosaic
open Cert.ReferenceIdeal Cert.ReferenceIdeal.Gen
open Decoder

/-- The gate values of a batch. -/
def gatesV (x h : FVec Ideal S16x320 .f32) (wih whh : FVec Ideal S320x1280 .f32) (bl : FVec Ideal S1280 .f32) : FVec Ideal S16x1280 .f32 :=
  addf (addf (Host.dotGeneral dot_S16x320_S320x1280_S16x1280_1_0_0_1_n_n none x wih)
      (Host.dotGeneral dot_S16x320_S320x1280_S16x1280_1_0_0_1_n_n none h whh))
    (broadcastInDim S16x1280 ![0, 1] bcast_S1x1280_S16x1280_0_1 (broadcastInDim S1x1280 ![1] bcast_S1280_S1x1280_1 bl))

theorem gatesV_apply (x h : FVec Ideal S16x320 .f32) (wih whh : FVec Ideal S320x1280 .f32) (bl : FVec Ideal S1280 .f32)
    (b : Fin 16) (j : Fin 1280) :
    gatesV x h wih whh bl (ix2 b j)
      = (∑ k : Fin 320, x (ix2 b k) * wih (ix2 k j) + ∑ k : Fin 320, h (ix2 b k) * whh (ix2 k j)) + bl (ix1 j) := by
  pointwise [gatesV]

/-- One over one plus the exponential of the opposite. -/
def sigV (x : FVec Ideal S16x320 .f32) : FVec Ideal S16x320 .f32 :=
  Host.divf (broadcastInDim S16x320 ![] bcast_S_S16x320 (constant S_ .f32 0x3F800000#32))
    (addf (broadcastInDim S16x320 ![] bcast_S_S16x320 (constant S_ .f32 0x3F800000#32)) (Host.exp (Host.negf x)))

theorem sigV_apply (x : FVec Ideal S16x320 .f32) (b : Fin 16) (j : Fin 320) :
    sigV x (ix2 b j) = Ideal.logistic (x (ix2 b j)) := by
  unfold sigV
  show Ideal.div (Ideal.ofBits .f32 0x3F800000#32) (Ideal.ofBits .f32 0x3F800000#32 + Ideal.exp (-(x (ix2 b j)))) = _
  rw [Ideal.ofBits_one_f32]; rfl

/-- The cell's next state of a batch. -/
def cNewV (g : FVec Ideal S16x1280 .f32) (c : FVec Ideal S16x320 .f32) : FVec Ideal S16x320 .f32 :=
  addf (mulf (sigV (extractStridedSlice S16x320 ![0, 320] g slices_S16x1280_S16x320_0_320)) c)
    (mulf (sigV (extractStridedSlice S16x320 ![0, 0] g slices_S16x1280_S16x320_0_0))
      (Host.tanh (extractStridedSlice S16x320 ![0, 640] g slices_S16x1280_S16x320_0_640)))

/-- The next hidden state of a batch. -/
def hNewV (g : FVec Ideal S16x1280 .f32) (c : FVec Ideal S16x320 .f32) : FVec Ideal S16x320 .f32 :=
  mulf (sigV (extractStridedSlice S16x320 ![0, 960] g slices_S16x1280_S16x320_0_960)) (Host.tanh (cNewV g c))

/-- The logits of a batch. -/
def logitsV (e : FVec Ideal S16x512 .f32) (h : FVec Ideal S16x320 .f32) (wenc : FVec Ideal S512x320 .f32)
    (wp : FVec Ideal S320x320 .f32) (bj : FVec Ideal S320 .f32) (wo : FVec Ideal S320x1024 .f32) (bo : FVec Ideal S1024 .f32) :
    FVec Ideal S16x1024 .f32 :=
  addf (Host.dotGeneral dot_S16x320_S320x1024_S16x1024_1_0_0_1_n_n none
      (Host.tanh (addf (addf (Host.dotGeneral dot_S16x512_S512x320_S16x320_1_0_0_1_n_n none e wenc)
          (Host.dotGeneral dot_S16x320_S320x320_S16x320_1_0_0_1_n_n none h wp))
        (broadcastInDim S16x320 ![0, 1] bcast_S1x320_S16x320_0_1 (broadcastInDim S1x320 ![1] bcast_S320_S1x320_1 bj)))) wo)
    (broadcastInDim S16x1024 ![0, 1] bcast_S1x1024_S16x1024_0_1 (broadcastInDim S1x1024 ![1] bcast_S1024_S1x1024_1 bo))

section
variable (p : Par) (s : Fin 16 → St)

/-- A batch of gate values holds each row's gate values. -/
theorem gatesV_eq {x h : FVec Ideal S16x320 .f32} {wih whh : FVec Ideal S320x1280 .f32} {bl : FVec Ideal S1280 .f32}
    (hx : ∀ b k, x (ix2 b k) = p.emb (s b).lab k) (hh : ∀ b k, h (ix2 b k) = (s b).h k)
    (hi : ∀ k j, wih (ix2 k j) = p.wih k j) (hw : ∀ k j, whh (ix2 k j) = p.whh k j) (hb : ∀ j, bl (ix1 j) = p.bl j)
    (b : Fin 16) (j : Fin 1280) : gatesV x h wih whh bl (ix2 b j) = gate p (s b) j := by
  rw [gatesV_apply, gate]
  simp only [hx, hh, hi, hw, hb]

/-- A batch of next cell states holds each row's. -/
theorem cNewV_eq {g : FVec Ideal S16x1280 .f32} {c : FVec Ideal S16x320 .f32}
    (hg : ∀ b j, g (ix2 b j) = gate p (s b) j) (hc : ∀ b k, c (ix2 b k) = (s b).c k) (b : Fin 16) (j : Fin 320) :
    cNewV g c (ix2 b j) = cNew p (s b) j := by
  unfold cNewV cNew at320
  rw [← hg, ← hg, ← hg, ← hc]
  pointwise [sigV_apply]

/-- A batch of next hidden states holds each row's. -/
theorem hNewV_eq {g : FVec Ideal S16x1280 .f32} {c : FVec Ideal S16x320 .f32}
    (hg : ∀ b j, g (ix2 b j) = gate p (s b) j) (hc : ∀ b k, c (ix2 b k) = (s b).c k) (b : Fin 16) (j : Fin 320) :
    hNewV g c (ix2 b j) = hNew p (s b) j := by
  unfold hNewV hNew at320
  rw [← cNewV_eq p s hg hc, ← hg]
  pointwise [sigV_apply]

/-- A batch of logits holds each row's. -/
theorem logitsV_eq {e : FVec Ideal S16x512 .f32} {h : FVec Ideal S16x320 .f32} {wenc : FVec Ideal S512x320 .f32}
    {wp : FVec Ideal S320x320 .f32} {bj : FVec Ideal S320 .f32} {wo : FVec Ideal S320x1024 .f32} {bo : FVec Ideal S1024 .f32}
    (E : Fin 16 → Fin 512 → EReal) (he : ∀ b d, e (ix2 b d) = E b d)
    (hh : ∀ b k, h (ix2 b k) = hNew p (s b) k) (hwe : ∀ d j, wenc (ix2 d j) = p.wenc d j)
    (hwp : ∀ k j, wp (ix2 k j) = p.wp k j) (hbj : ∀ j, bj (ix1 j) = p.bj j) (hwo : ∀ j v, wo (ix2 j v) = p.wo j v)
    (hbo : ∀ v, bo (ix1 v) = p.bo v) (b : Fin 16) (v : Fin 1024) :
    logitsV e h wenc wp bj wo bo (ix2 b v) = logit p (E b) (s b) v := by
  unfold logit joint
  pointwise [logitsV, he, hh, hwe, hwp, hbj, hwo, hbo]

end

end Cert.ReferenceIdeal.Own
-- ==== Proof.RefTake.lean ====
/- The reference's two indexed reads: a row of the embedding by label, and a row's value at its symbol. Both wrap a
   negative index and blank an index out of range; a label is neither. -/
module

public import proofs.«01_k».proof.Proof.Gen.ReferenceIdeal
public import proofs.«01_k».proof.Proof.Spec
public import Idealize.ShloMosaic.Lib.Pointwise
public import Idealize.ShloMosaic.Lib.Routing.Ops
public import Idealize.ShloMosaic.Lib.Routing.OpsPair
public import Idealize.ShloMosaic.Lib.ValueIdxCore
public import Idealize.ShloMosaic.Lib.StableHlo.Predicate

@[expose] public section

set_option maxRecDepth 16384

noncomputable section

namespace Cert.ReferenceIdeal.Own

open Idealize.ShloMosaic
open Cert.ReferenceIdeal Cert.ReferenceIdeal.Gen
open Decoder

/-- The word of a symbol's place is not negative. -/
theorem word_wrap (s : Fin 1024) (a : BitVec 32) :
    Scalar.select (IntOp.cmpi .slt (BitVec.ofNat 32 s.val) 0#32) a (BitVec.ofNat 32 s.val) = BitVec.ofNat 32 s.val := by
  have e : IntOp.cmpi .slt (BitVec.ofNat 32 s.val) 0#32 = 0#1 := by
    show BitVec.ofBool (decide ((BitVec.ofNat 32 s.val).toInt < (0#32).toInt)) = 0#1
    rw [StableHlo.Predicate.toInt_ofNat_small _ (by omega)]
    rw [decide_eq_false (by simp)]
    rfl
  rw [e]
  rfl

/-- The word of a symbol's place is in range. -/
theorem word_inside (s : Fin 1024) :
    IntOp.andi (IntOp.cmpi .sge (BitVec.ofNat 32 s.val) 0#32) (IntOp.cmpi .sle (BitVec.ofNat 32 s.val) 1023#32) = 1#1 := by
  have e : IntOp.cmpi .sge (BitVec.ofNat 32 s.val) 0#32 = 1#1 := by
    show BitVec.ofBool (decide ((0#32).toInt ≤ (BitVec.ofNat 32 s.val).toInt)) = 1#1
    have h : (0#32).toInt ≤ (BitVec.ofNat 32 s.val).toInt := by
      rw [StableHlo.Predicate.toInt_ofNat_small _ (by omega), StableHlo.Predicate.toInt_ofNat_small _ (by omega)]
      omega
    rw [decide_eq_true h]
    rfl
  have e' : IntOp.cmpi .sle (BitVec.ofNat 32 s.val) 1023#32 = 1#1 := by
    show BitVec.ofBool (decide ((BitVec.ofNat 32 s.val).toInt ≤ (1023#32).toInt)) = 1#1
    rw [StableHlo.Predicate.toInt_ofNat_small _ (by omega)]
    rw [decide_eq_true (by have : (1023#32).toInt = 1023 := by decide
                           omega)]
    rfl
  rw [e, e']
  rfl

/-- The conjunction over an axis of bits all set is set. -/
theorem reduce_ones {s t : Shape} {axes : List (Fin s.rank)} (x : IVec s 1) (v : IVec S_ 1) (h : s.ReducesTo axes t)
    (hx : ∀ i, x i = 1#1) (hv : ∀ i, v i = 1#1) (j : t.Idx) : Host.reduce IntOp.andi x v h h_S_ j = 1#1 := by
  unfold Host.reduce
  rw [hv]
  induction (List.finRange s.numel).filter fun n => h.drop (s.rowMajor.symm n) = j with
  | nil => rfl
  | cons a l ih =>
    rw [List.foldl_cons, hx]
    exact ih

/-- The labels as a column of row numbers. -/
def colV (l : IVec S16 32) : IVec S16x1 32 :=
  broadcastInDim S16x1 ![0] bcast_S16_S16x1_0
    (select (cmpi .slt l (broadcastInDim S16 ![] bcast_S_S16 (constantI S_ 32 0#32)))
      (addi l (broadcastInDim S16 ![] bcast_S_S16 (constantI S_ 32 1024#32))) l)

/-- A column's entries in range, by row. -/
def okV (i : IVec S16x1 32) : IVec S16 1 :=
  Host.reduce IntOp.andi
    (andi (cmpi .sge i (broadcastInDim S16x1 ![] bcast_S_S16x1 (constantI S_ 32 0#32)))
      (cmpi .sle i (broadcastInDim S16x1 ![0, 1] bcast_S1x1_S16x1_0_1 (broadcastInDim S1x1 ![1] bcast_S1_S1x1_1 (constantI S1 32 1023#32)))))
    (constantI S_ 1 1#1) reducesTo_S16x1_S16_d1 h_S_

/-- The rows of the embedding that the labels name. -/
def takeV (emb : FVec Ideal S1024x320 .f32) (l : IVec S16 32) : FVec Ideal S16x320 .f32 :=
  select (broadcastInDim S16x320 ![0] bcast_S16_S16x320_0 (okV (colV l)))
    (Host.gather gather_S1024x320_S16x1_S16x320_1_0_n_n_0_1_1320 emb (colV l))
    (broadcastInDim S16x320 ![] bcast_S_S16x320 (constant S_ .f32 0x7FC00000#32))

section
variable {s : Fin 16 → Fin 1024} {l : IVec S16 32} (hl : ∀ b, l (ix1 b) = BitVec.ofNat 32 (s b).val)
include hl

theorem colV_eq (b : Fin 16) : colV l (ix2 b 0) = BitVec.ofNat 32 (s b).val := by
  have h : colV l (ix2 b 0) = (select (cmpi .slt l (broadcastInDim S16 ![] bcast_S_S16 (constantI S_ 32 0#32)))
      (addi l (broadcastInDim S16 ![] bcast_S_S16 (constantI S_ 32 1024#32))) l) (ix1 b) := by
    pointwise [colV]
  rw [h]
  show Scalar.select (IntOp.cmpi .slt (l (ix1 b)) 0#32) _ (l (ix1 b)) = _
  rw [hl b]
  exact word_wrap _ _

theorem okV_eq (i : S16.Idx) : okV (colV l) i = 1#1 := by
  refine reduce_ones _ _ _ (fun q => ?_) (fun _ => rfl) _
  obtain ⟨b, z, rfl⟩ : ∃ (b : Fin 16) (z : Fin 1), q = ix2 b z := ⟨_, _, (ValueIdx.eq_ix2 q)⟩
  obtain rfl : z = 0 := Subsingleton.elim _ _
  show IntOp.andi (IntOp.cmpi .sge (colV l (ix2 b 0)) 0#32) (IntOp.cmpi .sle (colV l (ix2 b 0)) 1023#32) = 1#1
  rw [colV_eq hl]
  exact word_inside _

/-- A row's embedding is its label's. -/
theorem takeV_eq (emb : FVec Ideal S1024x320 .f32) (b : Fin 16) (k : Fin 320) :
    takeV emb l (ix2 b k) = emb (ix2 (s b) k) := by
  unfold takeV
  show Scalar.select (okV (colV l) _) (Host.gather gather_S1024x320_S16x1_S16x320_1_0_n_n_0_1_1320 emb (colV l) (ix2 b k)) _ = _
  rw [okV_eq hl]
  show Host.gather gather_S1024x320_S16x1_S16x320_1_0_n_n_0_1_1320 emb (colV l) (ix2 b k) = _
  exact Routing.gather_row (nb := 1024) (B := 320) (n := 16) gather_S1024x320_S16x1_S16x320_1_0_n_n_0_1_1320 rfl rfl rfl rfl rfl
    emb (colV l) b k (s b) (colV_eq hl b) (by norm_num)

end

/-- The gather of one value of each row reads the row at its own index. -/
theorem gather_pick (x : FVec Ideal S16x1024 .f32) (i : IVec S16x1x1 32) (b : Fin 16) (s : Fin 1024)
    (hi : i (ix3 b 0 0) = BitVec.ofNat 32 s.val) :
    Host.gather gather_S16x1024_S16x1x1_S16x1_n_1_0_0_1_2_11 x i (ix2 b 0) = x (ix2 b s) := by
  unfold Host.gather
  refine congrArg x (funext fun a => Fin.ext ?_)
  show (gather_S16x1024_S16x1x1_S16x1_n_1_0_0_1_2_11).start (ix2 b 0) i a
      + (gather_S16x1024_S16x1x1_S16x1_n_1_0_0_1_2_11).batchCoord (ix2 b 0) a
      + (gather_S16x1024_S16x1x1_S16x1_n_1_0_0_1_2_11).offCoord (ix2 b 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S16x1024_S16x1x1_S16x1_n_1_0_0_1_2_11).operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S16x1024_S16x1x1_S16x1_n_1_0_0_1_2_11).startIndexMap from List.mem_singleton.mpr rfl)]
    have hsi : (gather_S16x1024_S16x1x1_S16x1_n_1_0_0_1_2_11).siIdx (ix2 b 0)
        ⟨List.idxOf (1 : Fin 2) (gather_S16x1024_S16x1x1_S16x1_n_1_0_0_1_2_11).startIndexMap,
        List.idxOf_lt_length_iff.2 (List.mem_singleton.mpr rfl)⟩ = ix3 b 0 0 := by
      funext q; refine Fin.ext ?_
      match q with
      | ⟨0, _⟩ => rfl
      | ⟨1, _⟩ => rfl
      | ⟨2, _⟩ => rfl
    rw [hsi, hi, StableHlo.Predicate.toInt_ofNat_small _ (by omega)]
    show min ((s.val : Int)).toNat (1024 - 1) = s.val
    omega

/-- The wrapped column of symbols as start indices. -/
def col3V (c : IVec S16x1 32) : IVec S16x1x1 32 :=
  shapeCast S16x1x1 (select (cmpi .slt c (broadcastInDim S16x1 ![] bcast_S_S16x1 (constantI S_ 32 0#32)))
      (addi c (broadcastInDim S16x1 ![] bcast_S_S16x1 (constantI S_ 32 1024#32))) c) shapeCasts_S16x1_S16x1x1

/-- The start indices in range. -/
def ok3V (i : IVec S16x1x1 32) : IVec S16x1 1 :=
  Host.reduce IntOp.andi
    (andi (cmpi .sge i (broadcastInDim S16x1x1 ![] bcast_S_S16x1x1 (constantI S_ 32 0#32)))
      (cmpi .sle i (broadcastInDim S16x1x1 ![0, 1, 2] bcast_S1x1x1_S16x1x1_0_1_2
        (broadcastInDim S1x1x1 ![2] bcast_S1_S1x1x1_2 (constantI S1 32 1023#32)))))
    (constantI S_ 1 1#1) reducesTo_S16x1x1_S16x1_d2 h_S_

/-- Each row's value at its symbol. -/
def pickV (x : FVec Ideal S16x1024 .f32) (c : IVec S16x1 32) : FVec Ideal S16x1 .f32 :=
  select (ok3V (col3V c)) (Host.gather gather_S16x1024_S16x1x1_S16x1_n_1_0_0_1_2_11 x (col3V c))
    (broadcastInDim S16x1 ![] bcast_S_S16x1 (constant S_ .f32 0x7FC00000#32))

section
variable {s : Fin 16 → Fin 1024} {c : IVec S16x1 32} (hc : ∀ b, c (ix2 b 0) = BitVec.ofNat 32 (s b).val)
include hc

theorem col3V_eq (b : Fin 16) : col3V c (ix3 b 0 0) = BitVec.ofNat 32 (s b).val := by
  have h : col3V c (ix3 b 0 0) = (select (cmpi .slt c (broadcastInDim S16x1 ![] bcast_S_S16x1 (constantI S_ 32 0#32)))
      (addi c (broadcastInDim S16x1 ![] bcast_S_S16x1 (constantI S_ 32 1024#32))) c) (ix2 b 0) := by
    pointwise [col3V]
  rw [h]
  show Scalar.select (IntOp.cmpi .slt (c (ix2 b 0)) 0#32) _ (c (ix2 b 0)) = _
  rw [hc b]
  exact word_wrap _ _

theorem ok3V_eq (i : S16x1.Idx) : ok3V (col3V c) i = 1#1 := by
  refine reduce_ones _ _ _ (fun q => ?_) (fun _ => rfl) _
  obtain ⟨b, y, z, rfl⟩ : ∃ (b : Fin 16) (y z : Fin 1), q = ix3 b y z := ⟨_, _, _, (ValueIdx.eq_ix3 q)⟩
  obtain rfl : z = 0 := Subsingleton.elim _ _
  obtain rfl : y = 0 := Subsingleton.elim _ _
  show IntOp.andi (IntOp.cmpi .sge (col3V c (ix3 b 0 0)) 0#32) (IntOp.cmpi .sle (col3V c (ix3 b 0 0)) 1023#32) = 1#1
  rw [col3V_eq hc]
  exact word_inside _

/-- A row's picked value is the row's at its symbol. -/
theorem pickV_eq (x : FVec Ideal S16x1024 .f32) (b : Fin 16) : pickV x c (ix2 b 0) = x (ix2 b (s b)) := by
  unfold pickV
  show Scalar.select (ok3V (col3V c) _) (Host.gather gather_S16x1024_S16x1x1_S16x1_n_1_0_0_1_2_11 x (col3V c) (ix2 b 0)) _ = _
  rw [ok3V_eq hc]
  exact gather_pick x (col3V c) b (s b) (col3V_eq hc b)

end

end Cert.ReferenceIdeal.Own
-- ==== Proof.RefArgMax.lean ====
/- The reference's arg-max over the symbols: of values none of which is the bottom, it is the first place of the
   largest. -/
module

public import proofs.«01_k».proof.Proof.Gen.ReferenceIdeal
public import proofs.«01_k».proof.Proof.Spec
public import Idealize.ShloMosaic.Lib.Pointwise
public import Idealize.ShloMosaic.Lib.StableHlo.Predicate

@[expose] public section

set_option maxRecDepth 16384

noncomputable section

namespace Cert.ReferenceIdeal.Own

open Idealize.ShloMosaic
open Cert.ReferenceIdeal Cert.ReferenceIdeal.Gen
open Decoder

/-- A pair of a value and a place stands before another: its value is larger, or the values are one and its place is
    not after. -/
def Beats (a b : EReal × BitVec 32) : Prop := b.1 < a.1 ∨ (a.1 = b.1 ∧ a.2.toInt ≤ b.2.toInt)

theorem Beats.refl (a : EReal × BitVec 32) : Beats a a := .inr ⟨rfl, le_rfl⟩

theorem Beats.trans {a b c : EReal × BitVec 32} (h : Beats a b) (k : Beats b c) : Beats a c := by
  rcases h with h | ⟨h, h'⟩ <;> rcases k with k | ⟨k, k'⟩
  · exact .inl (k.trans h)
  · exact .inl (k ▸ h)
  · exact .inl (h.symm ▸ k)
  · exact .inr ⟨h.trans k, h'.trans k'⟩

/-- The reducer keeps one of its two pairs, and that pair stands before both. -/
theorem reducer_best (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨x, i⟩ := a
  obtain ⟨y, j⟩ := b
  have e : reducer_argmax_f32_i32 (F := Ideal) (x, i) (y, j)
      = (Scalar.select (IntOp.ori (BitVec.ofBool (decide (y < x))) (BitVec.ofBool (decide (x ≠ x)))) x y,
        Scalar.select (IntOp.ori (IntOp.ori (BitVec.ofBool (decide (y < x))) (BitVec.ofBool (decide (x ≠ x))))
          (IntOp.andi (BitVec.ofBool (decide (x = y))) (BitVec.ofBool (decide (i.toInt < j.toInt))))) i j) := rfl
  have hne : decide (x ≠ x) = false := by simp
  rw [e, hne]
  by_cases h : y < x
  · have e1 : decide (y < x) = true := decide_eq_true h
    have e2 : decide (x = y) = false := decide_eq_false fun q => absurd h (by rw [q]; exact lt_irrefl _)
    have e3 : Scalar.select (IntOp.ori (IntOp.ori (BitVec.ofBool true) (BitVec.ofBool false))
          (IntOp.andi (BitVec.ofBool false) (BitVec.ofBool (decide (i.toInt < j.toInt))))) i j = i := by
      generalize decide (i.toInt < j.toInt) = z
      cases z <;> rfl
    rw [e1, e2, e3]
    exact ⟨.inl rfl, .refl _, .inl h⟩
  · have e1 : decide (y < x) = false := decide_eq_false h
    rw [e1]
    by_cases q : x = y
    · by_cases r : i.toInt < j.toInt
      · rw [decide_eq_true q, decide_eq_true r]
        subst q
        exact ⟨.inl rfl, .refl _, .inr ⟨rfl, r.le⟩⟩
      · rw [decide_eq_true q, decide_eq_false r]
        subst q
        exact ⟨.inr rfl, .inr ⟨rfl, not_lt.1 r⟩, .refl _⟩
    · have e3 : Scalar.select (IntOp.ori (IntOp.ori (BitVec.ofBool false) (BitVec.ofBool false))
            (IntOp.andi (BitVec.ofBool false) (BitVec.ofBool (decide (i.toInt < j.toInt))))) i j = j := by
        generalize decide (i.toInt < j.toInt) = z
        cases z <;> rfl
      rw [decide_eq_false q, e3]
      exact ⟨.inr rfl, .inl (lt_of_le_of_ne (not_lt.1 h) q), .refl _⟩

/-- Folding the reducer over a list keeps the first pair or one of the list's, and that pair stands before all. -/
theorem foldl_best (l : List (EReal × BitVec 32)) (a : EReal × BitVec 32) :
    (l.foldl (reducer_argmax_f32_i32 (F := Ideal)) a = a ∨ l.foldl (reducer_argmax_f32_i32 (F := Ideal)) a ∈ l)
      ∧ Beats (l.foldl (reducer_argmax_f32_i32 (F := Ideal)) a) a
      ∧ ∀ q ∈ l, Beats (l.foldl (reducer_argmax_f32_i32 (F := Ideal)) a) q := by
  induction l generalizing a with
  | nil => exact ⟨.inl rfl, .refl _, fun q hq => absurd hq List.not_mem_nil⟩
  | cons b l ih =>
    obtain ⟨h1, h2, h3⟩ := ih (reducer_argmax_f32_i32 (F := Ideal) a b)
    obtain ⟨g1, g2, g3⟩ := reducer_best a b
    rw [List.foldl_cons]
    refine ⟨?_, h2.trans g2, fun q hq => ?_⟩
    · rcases h1 with h1 | h1
      · rcases g1 with g1 | g1
        · exact .inl (h1.trans g1)
        · exact .inr (List.mem_cons.2 (.inl (h1.trans g1)))
      · exact .inr (List.mem_cons.2 (.inr h1))
    · rcases List.mem_cons.1 hq with rfl | hq
      · exact h2.trans g3
      · exact h3 q hq

/-- The arg-max of a batch of values. -/
def amaxV (y : FVec Ideal S16x1024 .f32) : IVec S16 32 := fun j =>
  (Host.argReduce reducer_argmax_f32_i32 y (iotaInDim S16x1024 32 1) (constant S_ .f32 0xFF800000#32) (constantI S_ 32 0#32)
    reducesTo_S16x1024_S16_d1 h_S_ j).2

/-- The pairs a row's arg-max folds are the row's values with their places. -/
theorem mem_row (y : FVec Ideal S16x1024 .f32) (b : Fin 16) (q : EReal × BitVec 32) :
    q ∈ Host.argReduceFiber y (iotaInDim S16x1024 32 1) reducesTo_S16x1024_S16_d1 (ix1 b)
      ↔ ∃ v : Fin 1024, (y (ix2 b v), BitVec.ofNat 32 v.val) = q := by
  unfold Host.argReduceFiber
  simp only [List.mem_map, List.mem_filter, List.mem_finRange, true_and, decide_eq_true_eq]
  constructor
  · rintro ⟨n, hn, rfl⟩
    obtain ⟨v, hv⟩ := (Shape.ReducesTo.fiber_r2_a1 reducesTo_S16x1024_S16_d1 (ix1 b) _).1 hn
    refine ⟨v, ?_⟩
    rw [← hv]
    rfl
  · rintro ⟨v, rfl⟩
    refine ⟨S16x1024.rowMajor (ix2 b v), ?_, ?_⟩
    · rw [Equiv.symm_apply_apply]
      exact (Shape.ReducesTo.fiber_r2_a1 reducesTo_S16x1024_S16_d1 (ix1 b) _).2 ⟨v, rfl⟩
    · rw [Equiv.symm_apply_apply]
      rfl

/-- The arg-max of a row is the first place of the row's largest value. -/
theorem amaxV_eq (y : FVec Ideal S16x1024 .f32) (b : Fin 16) (hy : ∀ v, y (ix2 b v) ≠ (⊥ : EReal)) :
    amaxV y (ix1 b) = BitVec.ofNat 32 (best fun v => y (ix2 b v)).val := by
  unfold amaxV
  rw [Ideal.argReduce_eq_reduce2, Host.reduce2_eq_foldl_fiber]
  have hinit : (constant (F := Ideal) S_ .f32 0xFF800000#32) (Shape.Idx.first h_S_) = (⊥ : EReal) := by
    show Ideal.ofBits .f32 0xFF800000#32 = ⊥
    unfold Ideal.ofBits
    simp +decide
  rw [hinit]
  obtain ⟨h1, -, h3⟩ := foldl_best (Host.argReduceFiber y (iotaInDim S16x1024 32 1) reducesTo_S16x1024_S16_d1 (ix1 b))
    ((⊥ : EReal), (constantI S_ 32 0#32) (Shape.Idx.first h_S_))
  revert h1 h3
  generalize List.foldl _ _ _ = r
  intro h1 h3
  have hall : ∀ v : Fin 1024, Beats r (y (ix2 b v), BitVec.ofNat 32 v.val) := fun v => h3 _ ((mem_row y b _).2 ⟨v, rfl⟩)
  have hmem : ∃ v : Fin 1024, (y (ix2 b v), BitVec.ofNat 32 v.val) = r := by
    rcases h1 with h1 | h1
    · exfalso
      have h0 := hall 0
      rw [h1] at h0
      rcases h0 with h0 | ⟨h0, -⟩
      · exact absurd h0 not_lt_bot
      · exact hy 0 h0.symm
    · exact (mem_row y b _).1 h1
  obtain ⟨s, rfl⟩ := hmem
  have hs : IsBest (fun v => y (ix2 b v)) s := by
    refine ⟨fun i => ?_, fun i hi => ?_⟩
    · rcases hall i with h | ⟨h, -⟩
      · exact h.le
      · exact h.symm.le
    · rcases hall i with h | ⟨-, h⟩
      · exact h
      · exfalso
        simp only at h
        rw [StableHlo.Predicate.toInt_ofNat_small _ (by omega), StableHlo.Predicate.toInt_ofNat_small _ (by omega)] at h
        have : i.val < s.val := hi
        omega
  rw [← hs.eq_best]

end Cert.ReferenceIdeal.Own
-- ==== Proof.RefScore.lean ====
/- The reference's log-probabilities: each row's logits less the row's largest, less the logarithm of the row's sum of
   exponentials. -/
module

public import proofs.«01_k».proof.Proof.Gen.ReferenceIdeal
public import proofs.«01_k».proof.Proof.Spec
public import Idealize.ShloMosaic.Lib.Pointwise
public import Idealize.ShloMosaic.Lib.IdealHost

@[expose] public section

set_option maxRecDepth 16384

noncomputable section

namespace Cert.ReferenceIdeal.Own

open Idealize.ShloMosaic
open Cert.ReferenceIdeal Cert.ReferenceIdeal.Gen
open Decoder

/-- The bits of the bottom. -/
theorem bits_bot : Ideal.ofBits .f32 0xFF800000#32 = (⊥ : EReal) := by
  unfold Ideal.ofBits
  simp +decide

/-- The rows' largest values, as a column. -/
def topV (x : FVec Ideal S16x1024 .f32) : FVec Ideal S16 .f32 :=
  maximumf (broadcastInDim S16 ![] bcast_S_S16 (constant S_ .f32 0xFF800000#32))
    (Host.reduce FloatOps.maximumf x (constant S_ .f32 0xFF800000#32) reducesTo_S16x1024_S16_d1 h_S_)

theorem topV_apply (x : FVec Ideal S16x1024 .f32) (b : Fin 16) :
    topV x (ix1 b) = x (ix2 b (best fun v => x (ix2 b v))) := by
  have h : topV x (ix1 b) = max (Ideal.ofBits .f32 0xFF800000#32)
      ((Finset.univ : Finset (Fin 1024)).fold max (Ideal.ofBits .f32 0xFF800000#32) fun v => x (ix2 b v)) := by
    pointwise [topV]
  rw [h, bits_bot, fold_max_best]
  exact max_eq_right bot_le

/-- The logits less their row's largest. -/
def shiftV (x : FVec Ideal S16x1024 .f32) : FVec Ideal S16x1024 .f32 :=
  subf x (broadcastInDim S16x1024 ![0, 1] bcast_S16x1_S16x1024_0_1 (broadcastInDim S16x1 ![0] bcast_S16_S16x1_0 (topV x)))

theorem shiftV_apply (x : FVec Ideal S16x1024 .f32) (b : Fin 16) (v : Fin 1024) :
    shiftV x (ix2 b v) = x (ix2 b v) - x (ix2 b (best fun v => x (ix2 b v))) := by
  rw [← topV_apply x b]
  pointwise [shiftV]

/-- The log-probabilities. -/
def lsmV (x : FVec Ideal S16x1024 .f32) : FVec Ideal S16x1024 .f32 :=
  subf (shiftV x) (broadcastInDim S16x1024 ![0, 1] bcast_S16x1_S16x1024_0_1
    (Host.log (broadcastInDim S16x1 ![0] bcast_S16_S16x1_0
      (Host.reduceAdd (Host.exp (shiftV x)) (constant S_ .f32 0x00000000#32) reducesTo_S16x1024_S16_d1 h_S_))))

theorem lsmV_apply (x : FVec Ideal S16x1024 .f32) (b : Fin 16) (v : Fin 1024) :
    lsmV x (ix2 b v) = (x (ix2 b v) - x (ix2 b (best fun v => x (ix2 b v))))
      - Ideal.log (∑ w : Fin 1024, Ideal.exp (x (ix2 b w) - x (ix2 b (best fun v => x (ix2 b v))))) := by
  have h : lsmV x (ix2 b v) = shiftV x (ix2 b v)
      - Ideal.log (Ideal.ofBits .f32 0x00000000#32 + ∑ w : Fin 1024, Ideal.exp (shiftV x (ix2 b w))) := by
    pointwise [lsmV]
  rw [h, Ideal.ofBits_zero_f32, zero_add]
  simp only [shiftV_apply]

end Cert.ReferenceIdeal.Own
-- ==== Proof.RefSlices.lean ====
/- The reference's blocks at a step: the step's number off the list of all, the encoder's outputs at a time, and the
   writing of one row of a result. -/
module

public import proofs.«01_k».proof.Proof.Gen.ReferenceIdeal
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Own

open Idealize.ShloMosaic
open Cert.ReferenceIdeal Cert.ReferenceIdeal.Gen

/-- The number of a step among the numbers of all steps. -/
theorem slice_clock {α : Type} (x : S512.Idx → α) (st : Fin 1 → ℤ) (t : ℕ) (ht : t < 512) (h0 : st 0 = t)
    (h : S512.Slices (fun _ => 0) S1) (i : S_.Idx) :
    shapeCast S_ (Host.dynamicSlice S1 x st h) shapeCasts_S1_S_ i = x (ix1 ⟨t, ht⟩) := by
  rw [Host.dynamicSlice_eq_extractStridedSlice S1 x st ![t] h ⟨rfl, fun a => by
    match a with
    | ⟨0, _⟩ => show t + 1 ≤ 512; omega⟩ (fun a => by
    match a with
    | ⟨0, _⟩ => exact h0)]
  pointwise

/-- The encoder's outputs at a time. -/
theorem slice_enc {α : Type} (x : S16x512x512.Idx → α) (st : Fin 3 → ℤ) (t : ℕ) (ht : t < 512) (h0 : st 0 = 0)
    (h1 : st 1 = t) (h2 : st 2 = 0) (h : S16x512x512.Slices (fun _ => 0) S16x1x512) (b : Fin 16) (d : Fin 512) :
    shapeCast S16x512 (Host.dynamicSlice S16x1x512 x st h) shapeCasts_S16x1x512_S16x512 (ix2 b d) = x (ix3 b ⟨t, ht⟩ d) := by
  rw [Host.dynamicSlice_eq_extractStridedSlice S16x1x512 x st ![0, t, 0] h ⟨rfl, fun a => by
    match a with
    | ⟨0, _⟩ => show 0 + 16 ≤ 16; omega
    | ⟨1, _⟩ => show t + 1 ≤ 512; omega
    | ⟨2, _⟩ => show 0 + 512 ≤ 512; omega⟩ (fun a => by
    match a with
    | ⟨0, _⟩ => exact h0
    | ⟨1, _⟩ => exact h1
    | ⟨2, _⟩ => exact h2)]
  pointwise

/-- Writing one row leaves every other. -/
theorem update_row {α : Type} (x : S512x16.Idx → α) (u : S1x16.Idx → α) (st : Fin 2 → ℤ) (t : ℕ) (ht : t < 512)
    (h0 : st 0 = t) (h1 : st 1 = 0) (h : S512x16.Slices (fun _ => 0) S1x16) (r : Fin 512) (b : Fin 16) :
    Host.dynamicUpdateSlice x u st h (ix2 r b) = if r.val = t then u (ix2 0 b) else x (ix2 r b) := by
  rw [WordCmp.dynamicUpdateSlice_eq_update x u st h ![t, 0] ⟨rfl, fun a => by
    match a with
    | ⟨0, _⟩ => show t + 1 ≤ 512; omega
    | ⟨1, _⟩ => show 0 + 16 ≤ 16; omega⟩ (fun a => by
    match a with
    | ⟨0, _⟩ => exact h0
    | ⟨1, _⟩ => exact h1)]
  unfold updateSlice
  by_cases e : r.val = t
  · rw [if_pos e, dif_pos]
    · refine congrArg u (funext fun a => Fin.ext ?_)
      match a with
      | ⟨0, _⟩ => show r.val - t = 0; omega
      | ⟨1, _⟩ => show b.val - 0 = b.val; omega
    · intro a
      match a with
      | ⟨0, _⟩ => exact ⟨by show t ≤ r.val; omega, by show r.val < t + 1; omega⟩
      | ⟨1, _⟩ => exact ⟨by show 0 ≤ b.val; omega, by show b.val < 0 + 16; omega⟩
  · rw [if_neg e, dif_neg]
    intro hall
    have := hall ⟨0, by decide⟩
    have h2 : t ≤ r.val ∧ r.val < t + 1 := this
    omega

end Cert.ReferenceIdeal.Own
-- ==== Proof.RefReads.lean ====
/- What the stretches of one trip of the reference's loop leave in the buffers that the trip reads on, from what the
   stretch found. -/
module

public import proofs.«01_k».proof.Proof.Gen.ReferenceIdeal.Run
public import proofs.«01_k».proof.Proof.RefCell
public import proofs.«01_k».proof.Proof.RefTake
public import proofs.«01_k».proof.Proof.RefArgMax
public import proofs.«01_k».proof.Proof.RefScore
public import proofs.«01_k».proof.Proof.RefSlices
public import Idealize.ShloMosaic.Lib.StableHlo.RunHlo

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value

variable (V : Valuation τ sig (Elt Ideal))

/-- A row of a batch as a block of one row. -/
theorem row_bcast {α : Type} (u : S16.Idx → α) (b : Fin 16) :
    broadcastInDim S1x16 ![1] bcast_S16_S1x16_1 u (ix2 0 b) = u (ix1 b) := by
  pointwise

theorem read_clock (t : ℕ) (ht : t < 512) (h : V (Proc.devRef .tc main_v6_12) = fun _ => BitVec.ofNat 32 t)
    (h0 : V (Proc.devRef .tc main_v6_0) = iotaInDim S512 32 0) :
    after while0Ops0 V (Proc.devRef .tc main_while0b_v9) = fun _ => BitVec.ofNat 32 t := by
  after_results
  funext i
  show shapeCast S_ (Host.dynamicSlice (α := BitVec 32) S1 (V (Proc.devRef .tc main_v6_0)) _ sliceFits_S512_S1) shapeCasts_S1_S_ i = _
  refine (slice_clock _ _ t ht ?_ _ _).trans ?_
  · show BitVec.toInt ((V (Proc.devRef .tc main_v6_12) : S_.Idx → BitVec 32) (Shape.Idx.first h_S_)) = t
    rw [h]
    exact toInt_ofNat_of_lt (by omega)
  · show (V (Proc.devRef .tc main_v6_0) : S512.Idx → BitVec 32) _ = _
    rw [h0]
    rfl

theorem read_past : after while0Ops0_1 V (Proc.devRef .tc main_while0b_v11)
    = cmpi .sge (broadcastInDim S16 ![] bcast_S_S16 (V (Proc.devRef .tc main_while0b_v9))) (V (Proc.devRef .tc main_v6_1)) := by
  after_results

theorem read_enc (t : ℕ) (ht : t < 512) (h : V (Proc.devRef .tc main_while0b_v9) = fun _ => BitVec.ofNat 32 t)
    (b : Fin 16) (d : Fin 512) :
    (after while0Ops0_1 V (Proc.devRef .tc main_while0b_v22) : S16x512.Idx → EReal) (ix2 b d)
      = (V (Proc.devRef .tc main_v6_2) : S16x512x512.Idx → EReal) (ix3 b ⟨t, ht⟩ d) := by
  after_results
  show shapeCast S16x512 (Host.dynamicSlice (α := EReal) S16x1x512 (V (Proc.devRef .tc main_v6_2)) _ sliceFits_S16x512x512_S16x1x512)
    shapeCasts_S16x1x512_S16x512 (ix2 b d) = _
  refine (slice_enc _ _ t ht ?_ ?_ ?_ _ b d).trans ?_
  · rfl
  · show BitVec.toInt (select (cmpi .slt (V (Proc.devRef .tc main_while0b_v9)) (constantI S_ 32 0#32))
      (addi (V (Proc.devRef .tc main_while0b_v9)) (constantI S_ 32 512#32)) (V (Proc.devRef .tc main_while0b_v9))
      (Shape.Idx.first h_S_)) = t
    rw [h]
    exact toInt_wrap_ofNat t (by omega)
  · rfl
  · rfl

theorem read_take : after while0Ops0_2 V (Proc.devRef .tc main_while0b_v23)
    = takeV (V (Proc.devRef .tc main_v6_3)) (V (Proc.devRef .tc main_v6_15)) := by
  after_results
  rfl

theorem read_c : after while0Ops0_3 V (Proc.devRef .tc main_while0b_v49)
    = cNewV (gatesV (V (Proc.devRef .tc main_while0b_v23)) (V (Proc.devRef .tc main_v6_13)) (V (Proc.devRef .tc main_v6_4))
        (V (Proc.devRef .tc main_v6_5)) (V (Proc.devRef .tc main_v6_6))) (V (Proc.devRef .tc main_v6_14)) := by
  after_results
  rfl

theorem read_h : after while0Ops0_3 V (Proc.devRef .tc main_while0b_v57)
    = hNewV (gatesV (V (Proc.devRef .tc main_while0b_v23)) (V (Proc.devRef .tc main_v6_13)) (V (Proc.devRef .tc main_v6_4))
        (V (Proc.devRef .tc main_v6_5)) (V (Proc.devRef .tc main_v6_6))) (V (Proc.devRef .tc main_v6_14)) := by
  after_results
  rfl

theorem read_logits : after while0Ops0_3 V (Proc.devRef .tc main_while0b_v68)
    = logitsV (V (Proc.devRef .tc main_while0b_v22))
        (hNewV (gatesV (V (Proc.devRef .tc main_while0b_v23)) (V (Proc.devRef .tc main_v6_13)) (V (Proc.devRef .tc main_v6_4))
          (V (Proc.devRef .tc main_v6_5)) (V (Proc.devRef .tc main_v6_6))) (V (Proc.devRef .tc main_v6_14)))
        (V (Proc.devRef .tc main_v6_7)) (V (Proc.devRef .tc main_v6_8)) (V (Proc.devRef .tc main_v6_9))
        (V (Proc.devRef .tc main_v6_10)) (V (Proc.devRef .tc main_v6_11)) := by
  after_results
  rfl

theorem read_lsm : after while0Ops0_4 V (Proc.devRef .tc main_while0b_v69) = lsmV (V (Proc.devRef .tc main_while0b_v68)) := by
  after_results
  unfold lsmV shiftV topV
  simp only [TRef.toBuf, TRef.ofBuf, cast_eq]

theorem read_amax : after while0Ops0_5 V (Proc.devRef .tc main_while0b_v70) = amaxV (V (Proc.devRef .tc main_while0b_v69)) := by
  after_results
  rfl

/-- The rows that emit nothing. -/
def blankV (a : IVec S16 1) (l : IVec S16 32) : IVec S16 1 :=
  ori a (cmpi .eq l (broadcastInDim S16 ![] bcast_S_S16 (constantI S_ 32 0#32)))

theorem read_blank : after while0Ops0_6 V (Proc.devRef .tc main_while0b_v73)
    = blankV (V (Proc.devRef .tc main_while0b_v11)) (V (Proc.devRef .tc main_while0b_v70)) := by
  after_results
  rfl

theorem read_blankCol : after while0Ops0_6 V (Proc.devRef .tc main_while0b_v74)
    = broadcastInDim S16x1 ![0] bcast_S16_S16x1_0
        (blankV (V (Proc.devRef .tc main_while0b_v11)) (V (Proc.devRef .tc main_while0b_v70))) := by
  after_results
  rfl

theorem read_selH : after while0Ops0_7 V (Proc.devRef .tc main_while0b_v75)
    = select (broadcastInDim S16x320 ![0, 1] bcast_S16x1_S16x320_0_1 (V (Proc.devRef .tc main_while0b_v74)))
        (V (Proc.devRef .tc main_v6_13)) (V (Proc.devRef .tc main_while0b_v57)) := by
  after_results
  rfl

theorem read_selC : after while0Ops0_8 V (Proc.devRef .tc main_while0b_v76)
    = select (broadcastInDim S16x320 ![0, 1] bcast_S16x1_S16x320_0_1 (V (Proc.devRef .tc main_while0b_v74)))
        (V (Proc.devRef .tc main_v6_14)) (V (Proc.devRef .tc main_while0b_v49)) := by
  after_results
  rfl

theorem read_selL : after while0Ops0_9 V (Proc.devRef .tc main_while0b_v77)
    = select (V (Proc.devRef .tc main_while0b_v73)) (V (Proc.devRef .tc main_v6_15)) (V (Proc.devRef .tc main_while0b_v70)) := by
  after_results
  rfl

theorem read_zero : after while0Ops0_10 V (Proc.devRef .tc main_while0b_c_40) = constantI S_ 32 0#32 := by
  after_results

theorem read_emit : after while0Ops0_11 V (Proc.devRef .tc main_while0b_v78)
    = select (V (Proc.devRef .tc main_while0b_v73))
        (broadcastInDim S16 ![] bcast_S_S16 (V (Proc.devRef .tc main_while0b_c_40))) (V (Proc.devRef .tc main_while0b_v70)) := by
  after_results
  rfl

theorem read_symCol : after while0Ops0_12 V (Proc.devRef .tc main_while0b_v79)
    = broadcastInDim S16x1 ![0] bcast_S16_S16x1_0 (V (Proc.devRef .tc main_while0b_v70)) := by
  after_results

theorem read_pick : after while0Ops0_13 V (Proc.devRef .tc main_while0b_v80)
    = pickV (V (Proc.devRef .tc main_while0b_v69)) (V (Proc.devRef .tc main_while0b_v79)) := by
  after_results
  rfl

theorem read_pickRow : after while0Ops0_14 V (Proc.devRef .tc main_while0b_v81)
    = shapeCast S16 (V (Proc.devRef .tc main_while0b_v80)) shapeCasts_S16x1_S16 := by
  after_results
  rfl

theorem read_rowL (t : ℕ) (ht : t < 512) (h : V (Proc.devRef .tc main_v6_12) = fun _ => BitVec.ofNat 32 t)
    (r : Fin 512) (b : Fin 16) :
    (after while0Ops0_15 V (Proc.devRef .tc main_while0b_v82) : S512x16.Idx → BitVec 32) (ix2 r b)
      = if r.val = t then (V (Proc.devRef .tc main_while0b_v78) : S16.Idx → BitVec 32) (ix1 b)
        else (V (Proc.devRef .tc main_v6_16) : S512x16.Idx → BitVec 32) (ix2 r b) := by
  after_results
  show Host.dynamicUpdateSlice (α := BitVec 32) (V (Proc.devRef .tc main_v6_16))
    (broadcastInDim S1x16 ![1] bcast_S16_S1x16_1 (V (Proc.devRef .tc main_while0b_v78))) _ updateFits_S512x16_S1x16 (ix2 r b) = _
  refine (update_row _ _ _ t ht ?_ ?_ _ r b).trans ?_
  · show BitVec.toInt ((V (Proc.devRef .tc main_v6_12) : S_.Idx → BitVec 32) (Shape.Idx.first h_S_)) = t
    rw [h]
    exact toInt_ofNat_of_lt (by omega)
  · rfl
  · rw [row_bcast]

theorem read_rowS (t : ℕ) (ht : t < 512) (h : V (Proc.devRef .tc main_v6_12) = fun _ => BitVec.ofNat 32 t)
    (r : Fin 512) (b : Fin 16) :
    (after while0Ops0_16 V (Proc.devRef .tc main_while0b_v83) : S512x16.Idx → EReal) (ix2 r b)
      = if r.val = t then (V (Proc.devRef .tc main_while0b_v81) : S16.Idx → EReal) (ix1 b)
        else (V (Proc.devRef .tc main_v6_17) : S512x16.Idx → EReal) (ix2 r b) := by
  after_results
  show Host.dynamicUpdateSlice (α := EReal) (V (Proc.devRef .tc main_v6_17))
    (broadcastInDim S1x16 ![1] bcast_S16_S1x16_1 (V (Proc.devRef .tc main_while0b_v81))) _ updateFits_S512x16_S1x16 (ix2 r b) = _
  refine (update_row _ _ _ t ht ?_ ?_ _ r b).trans ?_
  · show BitVec.toInt ((V (Proc.devRef .tc main_v6_12) : S_.Idx → BitVec 32) (Shape.Idx.first h_S_)) = t
    rw [h]
    exact toInt_ofNat_of_lt (by omega)
  · rfl
  · rw [row_bcast]

theorem next_h : after while0Ops0_17 V (Proc.devRef .tc main_v6_13) = V (Proc.devRef .tc main_while0b_v75) := by
  after_results
  rfl

theorem next_c : after while0Ops0_17 V (Proc.devRef .tc main_v6_14) = V (Proc.devRef .tc main_while0b_v76) := by
  after_results
  rfl

theorem next_l : after while0Ops0_17 V (Proc.devRef .tc main_v6_15) = V (Proc.devRef .tc main_while0b_v77) := by
  after_results
  rfl

theorem next_rowL : after while0Ops0_17 V (Proc.devRef .tc main_v6_16) = V (Proc.devRef .tc main_while0b_v82) := by
  after_results
  rfl

theorem next_rowS : after while0Ops0_17 V (Proc.devRef .tc main_v6_17) = V (Proc.devRef .tc main_while0b_v83) := by
  after_results
  rfl

end Cert.ReferenceIdeal.Own
-- ==== Proof.RefStep.lean ====
/- One trip of the reference's loop: from every row's state before the step to every row's state after it, and the
   labels and scores that the step writes. -/
module

public import proofs.«01_k».proof.Proof.RefStages
public import proofs.«01_k».proof.Proof.RefReads

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value
open Decoder

/-- The buffers that a trip only reads hold the parameters. -/
structure Holds (p : Par) (V : Valuation τ sig (Elt Ideal)) : Prop where
  clock : V (Proc.devRef .tc main_v6_0) = iotaInDim S512 32 0
  lens : ∀ b, (V (Proc.devRef .tc main_v6_1) : S16.Idx → BitVec 32) (ix1 b) = p.lens b
  enc : ∀ b t d, (V (Proc.devRef .tc main_v6_2) : S16x512x512.Idx → EReal) (ix3 b t d) = p.enc b t d
  emb : ∀ l k, (V (Proc.devRef .tc main_v6_3) : S1024x320.Idx → EReal) (ix2 l k) = p.emb l k
  wih : ∀ k j, (V (Proc.devRef .tc main_v6_4) : S320x1280.Idx → EReal) (ix2 k j) = p.wih k j
  whh : ∀ k j, (V (Proc.devRef .tc main_v6_5) : S320x1280.Idx → EReal) (ix2 k j) = p.whh k j
  bl : ∀ j, (V (Proc.devRef .tc main_v6_6) : S1280.Idx → EReal) (ix1 j) = p.bl j
  wenc : ∀ d j, (V (Proc.devRef .tc main_v6_7) : S512x320.Idx → EReal) (ix2 d j) = p.wenc d j
  wp : ∀ k j, (V (Proc.devRef .tc main_v6_8) : S320x320.Idx → EReal) (ix2 k j) = p.wp k j
  bj : ∀ j, (V (Proc.devRef .tc main_v6_9) : S320.Idx → EReal) (ix1 j) = p.bj j
  wo : ∀ j v, (V (Proc.devRef .tc main_v6_10) : S320x1024.Idx → EReal) (ix2 j v) = p.wo j v
  bo : ∀ v, (V (Proc.devRef .tc main_v6_11) : S1024.Idx → EReal) (ix1 v) = p.bo v

/-- The buffers that a trip carries hold every row's state before step `t`, and the rows of the results written so far. -/
structure Carries (p : Par) (t : ℕ) (V : Valuation τ sig (Elt Ideal)) : Prop where
  ctr : V (Proc.devRef .tc main_v6_12) = fun _ => BitVec.ofNat 32 t
  h : ∀ b k, (V (Proc.devRef .tc main_v6_13) : S16x320.Idx → EReal) (ix2 b k) = (state p b t).h k
  c : ∀ b k, (V (Proc.devRef .tc main_v6_14) : S16x320.Idx → EReal) (ix2 b k) = (state p b t).c k
  l : ∀ b, (V (Proc.devRef .tc main_v6_15) : S16.Idx → BitVec 32) (ix1 b) = BitVec.ofNat 32 (state p b t).lab.val
  rowL : ∀ r b, r.val < t → (V (Proc.devRef .tc main_v6_16) : S512x16.Idx → BitVec 32) (ix2 r b) = outLab p b r.val
  rowS : ∀ r b, r.val < t → (V (Proc.devRef .tc main_v6_17) : S512x16.Idx → EReal) (ix2 r b) = outScore p b r.val

/-- The bit that says that a row emits nothing. -/
theorem blank_bit (n : BitVec 32) (t : ℕ) (ht : t < 512) (s : Fin 1024) :
    IntOp.ori (IntOp.cmpi .sge (BitVec.ofNat 32 t) n) (IntOp.cmpi .eq (BitVec.ofNat 32 s.val) 0#32) = 1#1
      ↔ n.toInt ≤ (t : ℤ) ∨ s = 0 := by
  have e1 : IntOp.cmpi .sge (BitVec.ofNat 32 t) n = BitVec.ofBool (decide (n.toInt ≤ (t : ℤ))) := by
    show BitVec.ofBool (decide (n.toInt ≤ (BitVec.ofNat 32 t).toInt)) = _
    rw [toInt_ofNat_of_lt (by omega)]
  have e2 : IntOp.cmpi .eq (BitVec.ofNat 32 s.val) 0#32 = BitVec.ofBool (decide (s = 0)) := by
    rw [WordCmp.cmpi_eq_eq]
    congr 2
    apply propext
    constructor
    · intro h
      have := congrArg BitVec.toNat h
      rw [BitVec.toNat_ofNat, BitVec.toNat_ofNat, Nat.mod_eq_of_lt (by omega)] at this
      exact Fin.ext this
    · rintro rfl; rfl
  rw [e1, e2]
  by_cases h1 : n.toInt ≤ (t : ℤ) <;> by_cases h2 : s = 0 <;> simp [h1, h2, IntOp.ori]

/-- A choice by rows between two batches, at an entry. -/
theorem choose_apply (a : IVec S16 1) (x y : S16x320.Idx → EReal) (b : Fin 16) (k : Fin 320) :
    select (broadcastInDim S16x320 ![0, 1] bcast_S16x1_S16x320_0_1 (broadcastInDim S16x1 ![0] bcast_S16_S16x1_0 a)) x y (ix2 b k)
      = if a (ix1 b) = 1#1 then x (ix2 b k) else y (ix2 b k) := by
  pointwise
  rfl

/-- A choice by a bit that is set exactly where a proposition holds. -/
theorem select_one_iff {α : Type} {q : BitVec 1} {P : Prop} [Decidable P] (h : q = 1#1 ↔ P) (x y : α) :
    Scalar.select q x y = if P then x else y := by
  show (if q = 1#1 then x else y) = _
  by_cases hP : P
  · rw [if_pos hP, if_pos (h.2 hP)]
  · rw [if_neg hP, if_neg fun e => hP (h.1 e)]

/-- A column read back as a row. -/
theorem col_row (x : S16x1.Idx → EReal) (b : Fin 16) : shapeCast S16 x shapeCasts_S16x1_S16 (ix1 b) = x (ix2 b 0) := by
  pointwise

theorem col_apply {α : Type} (x : S16.Idx → α) (b : Fin 16) : broadcastInDim S16x1 ![0] bcast_S16_S16x1_0 x (ix2 b 0) = x (ix1 b) := by
  pointwise

section
variable {p : Par} (hp : Decoder.Real p) {V : Valuation τ sig (Elt Ideal)} {t : ℕ} (ht : t < 512)
  (H : Holds p V) (C : Carries p t V)
include ht H C

theorem encAt_eq (b : Fin 16) : encAt p b t = p.enc b ⟨t, ht⟩ := by
  unfold encAt
  congr 1
  exact Fin.ext (Nat.mod_eq_of_lt ht)

theorem at_clock : X1 V (Proc.devRef .tc main_while0b_v9) = fun _ => BitVec.ofNat 32 t :=
  read_clock (X0 V) t ht ((keep0).trans C.ctr) ((keep0).trans H.clock)

theorem at_enc (b : Fin 16) (d : Fin 512) :
    (X2 V (Proc.devRef .tc main_while0b_v22) : S16x512.Idx → EReal) (ix2 b d) = encAt p b t d := by
  rw [encAt_eq ht H C]
  refine (read_enc (X1 V) t ht (at_clock ht H C) b d).trans ?_
  rw [show X1 V (Proc.devRef .tc main_v6_2) = V (Proc.devRef .tc main_v6_2) from (keep1).trans keep0]
  exact H.enc _ _ _

theorem at_take (b : Fin 16) (k : Fin 320) :
    (X3 V (Proc.devRef .tc main_while0b_v23) : S16x320.Idx → EReal) (ix2 b k) = p.emb (state p b t).lab k := by
  rw [show X3 V (Proc.devRef .tc main_while0b_v23) = _ from read_take (X2 V),
    show X2 V (Proc.devRef .tc main_v6_3) = V (Proc.devRef .tc main_v6_3) from (keep2).trans ((keep1).trans keep0),
    show X2 V (Proc.devRef .tc main_v6_15) = V (Proc.devRef .tc main_v6_15) from (keep2).trans ((keep1).trans keep0)]
  exact (takeV_eq (s := fun b => (state p b t).lab) C.l _ b k).trans (H.emb _ _)

theorem at_gates (b : Fin 16) (j : Fin 1280) :
    gatesV (X3 V (Proc.devRef .tc main_while0b_v23)) (X3 V (Proc.devRef .tc main_v6_13)) (X3 V (Proc.devRef .tc main_v6_4))
      (X3 V (Proc.devRef .tc main_v6_5)) (X3 V (Proc.devRef .tc main_v6_6)) (ix2 b j) = gate p (state p b t) j := by
  rw [show X3 V (Proc.devRef .tc main_v6_13) = V (Proc.devRef .tc main_v6_13) from (keep3).trans ((keep2).trans ((keep1).trans keep0)),
    show X3 V (Proc.devRef .tc main_v6_4) = V (Proc.devRef .tc main_v6_4) from (keep3).trans ((keep2).trans ((keep1).trans keep0)),
    show X3 V (Proc.devRef .tc main_v6_5) = V (Proc.devRef .tc main_v6_5) from (keep3).trans ((keep2).trans ((keep1).trans keep0)),
    show X3 V (Proc.devRef .tc main_v6_6) = V (Proc.devRef .tc main_v6_6) from (keep3).trans ((keep2).trans ((keep1).trans keep0))]
  exact gatesV_eq p (fun b => state p b t) (at_take ht H C) C.h H.wih H.whh H.bl b j

theorem at_oldC (b : Fin 16) (k : Fin 320) :
    (X3 V (Proc.devRef .tc main_v6_14) : S16x320.Idx → EReal) (ix2 b k) = (state p b t).c k := by
  rw [show X3 V (Proc.devRef .tc main_v6_14) = V (Proc.devRef .tc main_v6_14) from (keep3).trans ((keep2).trans ((keep1).trans keep0))]
  exact C.c b k

theorem at_c (b : Fin 16) (k : Fin 320) :
    (X4 V (Proc.devRef .tc main_while0b_v49) : S16x320.Idx → EReal) (ix2 b k) = cNew p (state p b t) k := by
  rw [show X4 V (Proc.devRef .tc main_while0b_v49) = _ from read_c (X3 V)]
  exact cNewV_eq p (fun b => state p b t) (at_gates ht H C) (at_oldC ht H C) b k

theorem at_h (b : Fin 16) (k : Fin 320) :
    (X4 V (Proc.devRef .tc main_while0b_v57) : S16x320.Idx → EReal) (ix2 b k) = hNew p (state p b t) k := by
  rw [show X4 V (Proc.devRef .tc main_while0b_v57) = _ from read_h (X3 V)]
  exact hNewV_eq p (fun b => state p b t) (at_gates ht H C) (at_oldC ht H C) b k

theorem at_logits (b : Fin 16) (v : Fin 1024) :
    (X4 V (Proc.devRef .tc main_while0b_v68) : S16x1024.Idx → EReal) (ix2 b v) = logit p (encAt p b t) (state p b t) v := by
  rw [show X4 V (Proc.devRef .tc main_while0b_v68) = _ from read_logits (X3 V)]
  refine logitsV_eq p (fun b => state p b t) (fun b => encAt p b t) ?_
    (hNewV_eq p (fun b => state p b t) (at_gates ht H C) (at_oldC ht H C)) ?_ ?_ ?_ ?_ ?_ b v
  · rw [show X3 V (Proc.devRef .tc main_while0b_v22) = X2 V (Proc.devRef .tc main_while0b_v22) from keep3]
    exact at_enc ht H C
  · rw [show X3 V (Proc.devRef .tc main_v6_7) = V (Proc.devRef .tc main_v6_7) from (keep3).trans ((keep2).trans ((keep1).trans keep0))]
    exact H.wenc
  · rw [show X3 V (Proc.devRef .tc main_v6_8) = V (Proc.devRef .tc main_v6_8) from (keep3).trans ((keep2).trans ((keep1).trans keep0))]
    exact H.wp
  · rw [show X3 V (Proc.devRef .tc main_v6_9) = V (Proc.devRef .tc main_v6_9) from (keep3).trans ((keep2).trans ((keep1).trans keep0))]
    exact H.bj
  · rw [show X3 V (Proc.devRef .tc main_v6_10) = V (Proc.devRef .tc main_v6_10) from (keep3).trans ((keep2).trans ((keep1).trans keep0))]
    exact H.wo
  · rw [show X3 V (Proc.devRef .tc main_v6_11) = V (Proc.devRef .tc main_v6_11) from (keep3).trans ((keep2).trans ((keep1).trans keep0))]
    exact H.bo

theorem at_row (b : Fin 16) : (fun v => (X4 V (Proc.devRef .tc main_while0b_v68) : S16x1024.Idx → EReal) (ix2 b v))
    = logit p (encAt p b t) (state p b t) := funext (at_logits ht H C b)

theorem at_lsm (b : Fin 16) (v : Fin 1024) :
    (X5 V (Proc.devRef .tc main_while0b_v69) : S16x1024.Idx → EReal) (ix2 b v)
      = (logit p (encAt p b t) (state p b t) v - logit p (encAt p b t) (state p b t) (sym p (encAt p b t) (state p b t)))
        - Ideal.log (∑ w, Ideal.exp (logit p (encAt p b t) (state p b t) w
            - logit p (encAt p b t) (state p b t) (sym p (encAt p b t) (state p b t)))) := by
  rw [show X5 V (Proc.devRef .tc main_while0b_v69) = _ from read_lsm (X4 V), lsmV_apply]
  simp only [at_logits ht H C]
  rfl

include hp

theorem at_sym (b : Fin 16) :
    (X6 V (Proc.devRef .tc main_while0b_v70) : S16.Idx → BitVec 32) (ix1 b)
      = BitVec.ofNat 32 (sym p (encAt p b t) (state p b t)).val := by
  obtain ⟨r, hr⟩ := logit_real hp (encAt p b t) (state p b t)
  obtain ⟨l, hl⟩ := logsum_real hr (sym p (encAt p b t) (state p b t))
  have e : ∀ v, (X5 V (Proc.devRef .tc main_while0b_v69) : S16x1024.Idx → EReal) (ix2 b v)
      = (logit p (encAt p b t) (state p b t) v - ((r (sym p (encAt p b t) (state p b t)) : ℝ) : EReal)) - (l : EReal) := fun v => by
    rw [at_lsm ht H C, hl, hr (sym p (encAt p b t) (state p b t))]
  rw [show X6 V (Proc.devRef .tc main_while0b_v70) = _ from read_amax (X5 V), amaxV_eq]
  · rw [show (fun v => (X5 V (Proc.devRef .tc main_while0b_v69) : S16x1024.Idx → EReal) (ix2 b v)) = _ from funext e,
      best_shift hr]
    rfl
  · intro v
    rw [e, hr v, ← EReal.coe_sub, ← EReal.coe_sub]
    exact EReal.coe_ne_bot _

theorem at_blank (b : Fin 16) :
    (blankV (X6 V (Proc.devRef .tc main_while0b_v11)) (X6 V (Proc.devRef .tc main_while0b_v70))) (ix1 b) = 1#1
      ↔ blank p (encAt p b t) (p.lens b) t (state p b t) := by
  rw [show X6 V (Proc.devRef .tc main_while0b_v11) = X2 V (Proc.devRef .tc main_while0b_v11) from
      (keep6).trans ((keep5).trans ((keep4).trans keep3)),
    show X2 V (Proc.devRef .tc main_while0b_v11) = _ from read_past (X1 V), at_clock ht H C,
    show X1 V (Proc.devRef .tc main_v6_1) = V (Proc.devRef .tc main_v6_1) from (keep1).trans keep0]
  show IntOp.ori (IntOp.cmpi .sge (BitVec.ofNat 32 t) ((V (Proc.devRef .tc main_v6_1) : S16.Idx → BitVec 32) (ix1 b)))
    (IntOp.cmpi .eq ((X6 V (Proc.devRef .tc main_while0b_v70) : S16.Idx → BitVec 32) (ix1 b)) 0#32) = 1#1 ↔ _
  rw [at_sym hp ht H C, H.lens]
  exact blank_bit _ _ ht _

theorem at_bit : X7 V (Proc.devRef .tc main_while0b_v73)
    = blankV (X6 V (Proc.devRef .tc main_while0b_v11)) (X6 V (Proc.devRef .tc main_while0b_v70)) := read_blank (X6 V)

theorem next_at_h (b : Fin 16) (k : Fin 320) :
    (X18 V (Proc.devRef .tc main_v6_13) : S16x320.Idx → EReal) (ix2 b k) = (state p b (t + 1)).h k := by
  rw [show X18 V (Proc.devRef .tc main_v6_13) = _ from next_h (X17 V),
    show X17 V (Proc.devRef .tc main_while0b_v75) = X8 V (Proc.devRef .tc main_while0b_v75) from
      (keep17).trans ((keep16).trans ((keep15).trans ((keep14).trans ((keep13).trans ((keep12).trans ((keep11).trans ((keep10).trans keep9))))))),
    show X8 V (Proc.devRef .tc main_while0b_v75) = _ from read_selH (X7 V),
    show X7 V (Proc.devRef .tc main_while0b_v74) = _ from read_blankCol (X6 V), choose_apply,
    show X7 V (Proc.devRef .tc main_v6_13) = V (Proc.devRef .tc main_v6_13) from
      (keep7).trans ((keep6).trans ((keep5).trans ((keep4).trans ((keep3).trans ((keep2).trans ((keep1).trans keep0)))))),
    show X7 V (Proc.devRef .tc main_while0b_v57) = X4 V (Proc.devRef .tc main_while0b_v57) from (keep7).trans ((keep6).trans keep5),
    C.h, at_h ht H C]
  show _ = (next p (encAt p b t) (p.lens b) t (state p b t)).h k
  unfold next
  by_cases hb : blank p (encAt p b t) (p.lens b) t (state p b t)
  · rw [if_pos ((at_blank hp ht H C b).2 hb), if_pos hb]
  · rw [if_neg fun h => hb ((at_blank hp ht H C b).1 h), if_neg hb]

theorem next_at_c (b : Fin 16) (k : Fin 320) :
    (X18 V (Proc.devRef .tc main_v6_14) : S16x320.Idx → EReal) (ix2 b k) = (state p b (t + 1)).c k := by
  rw [show X18 V (Proc.devRef .tc main_v6_14) = _ from next_c (X17 V),
    show X17 V (Proc.devRef .tc main_while0b_v76) = X9 V (Proc.devRef .tc main_while0b_v76) from
      (keep17).trans ((keep16).trans ((keep15).trans ((keep14).trans ((keep13).trans ((keep12).trans ((keep11).trans keep10)))))),
    show X9 V (Proc.devRef .tc main_while0b_v76) = _ from read_selC (X8 V),
    show X8 V (Proc.devRef .tc main_while0b_v74) = X7 V (Proc.devRef .tc main_while0b_v74) from keep8,
    show X7 V (Proc.devRef .tc main_while0b_v74) = _ from read_blankCol (X6 V), choose_apply,
    show X8 V (Proc.devRef .tc main_v6_14) = V (Proc.devRef .tc main_v6_14) from
      (keep8).trans ((keep7).trans ((keep6).trans ((keep5).trans ((keep4).trans ((keep3).trans ((keep2).trans ((keep1).trans keep0))))))),
    show X8 V (Proc.devRef .tc main_while0b_v49) = X4 V (Proc.devRef .tc main_while0b_v49) from
      (keep8).trans ((keep7).trans ((keep6).trans keep5)),
    C.c, at_c ht H C]
  show _ = (next p (encAt p b t) (p.lens b) t (state p b t)).c k
  unfold next
  by_cases hb : blank p (encAt p b t) (p.lens b) t (state p b t)
  · rw [if_pos ((at_blank hp ht H C b).2 hb), if_pos hb]
  · rw [if_neg fun h => hb ((at_blank hp ht H C b).1 h), if_neg hb]

theorem next_at_l (b : Fin 16) :
    (X18 V (Proc.devRef .tc main_v6_15) : S16.Idx → BitVec 32) (ix1 b) = BitVec.ofNat 32 (state p b (t + 1)).lab.val := by
  classical
  rw [show X18 V (Proc.devRef .tc main_v6_15) = _ from next_l (X17 V),
    show X17 V (Proc.devRef .tc main_while0b_v77) = X10 V (Proc.devRef .tc main_while0b_v77) from
      (keep17).trans ((keep16).trans ((keep15).trans ((keep14).trans ((keep13).trans ((keep12).trans keep11))))),
    show X10 V (Proc.devRef .tc main_while0b_v77) = _ from read_selL (X9 V),
    show X9 V (Proc.devRef .tc main_while0b_v73) = X7 V (Proc.devRef .tc main_while0b_v73) from (keep9).trans keep8,
    at_bit hp ht H C,
    show X9 V (Proc.devRef .tc main_v6_15) = V (Proc.devRef .tc main_v6_15) from
      (keep9).trans ((keep8).trans ((keep7).trans ((keep6).trans ((keep5).trans ((keep4).trans ((keep3).trans ((keep2).trans ((keep1).trans keep0)))))))),
    show X9 V (Proc.devRef .tc main_while0b_v70) = X6 V (Proc.devRef .tc main_while0b_v70) from (keep9).trans ((keep8).trans keep7)]
  refine (select_one_iff (at_blank hp ht H C b) _ _).trans ?_
  rw [C.l, at_sym hp ht H C]
  show _ = BitVec.ofNat 32 (next p (encAt p b t) (p.lens b) t (state p b t)).lab.val
  unfold next
  by_cases hb : blank p (encAt p b t) (p.lens b) t (state p b t)
  · rw [if_pos hb, if_pos hb]
  · rw [if_neg hb, if_neg hb]

theorem at_emit (b : Fin 16) :
    (X12 V (Proc.devRef .tc main_while0b_v78) : S16.Idx → BitVec 32) (ix1 b) = outLab p b t := by
  classical
  rw [show X12 V (Proc.devRef .tc main_while0b_v78) = _ from read_emit (X11 V),
    show X11 V (Proc.devRef .tc main_while0b_v73) = X7 V (Proc.devRef .tc main_while0b_v73) from
      (keep11).trans ((keep10).trans ((keep9).trans keep8)),
    at_bit hp ht H C,
    show X11 V (Proc.devRef .tc main_while0b_c_40) = _ from read_zero (X10 V),
    show X11 V (Proc.devRef .tc main_while0b_v70) = X6 V (Proc.devRef .tc main_while0b_v70) from
      (keep11).trans ((keep10).trans ((keep9).trans ((keep8).trans keep7)))]
  refine (select_one_iff (at_blank hp ht H C b) _ _).trans ?_
  rw [at_sym hp ht H C]
  unfold outLab
  by_cases hb : blank p (encAt p b t) (p.lens b) t (state p b t)
  · rw [if_pos hb, if_pos hb]; rfl
  · rw [if_neg hb, if_neg hb]

theorem at_score (b : Fin 16) :
    (X15 V (Proc.devRef .tc main_while0b_v81) : S16.Idx → EReal) (ix1 b) = outScore p b t := by
  obtain ⟨r, hr⟩ := logit_real hp (encAt p b t) (state p b t)
  rw [show X15 V (Proc.devRef .tc main_while0b_v81) = _ from read_pickRow (X14 V), col_row,
    show X14 V (Proc.devRef .tc main_while0b_v80) = _ from read_pick (X13 V),
    pickV_eq (s := fun b => sym p (encAt p b t) (state p b t)),
    show X13 V (Proc.devRef .tc main_while0b_v69) = X5 V (Proc.devRef .tc main_while0b_v69) from
      (keep13).trans ((keep12).trans ((keep11).trans ((keep10).trans ((keep9).trans ((keep8).trans ((keep7).trans keep6)))))),
    at_lsm ht H C]
  · rw [hr (sym p (encAt p b t) (state p b t)), ← EReal.coe_sub, sub_self, EReal.coe_zero, ← hr (sym p (encAt p b t) (state p b t)),
      zero_sub]
    rfl
  · intro b
    rw [show X13 V (Proc.devRef .tc main_while0b_v79) = _ from read_symCol (X12 V), col_apply,
      show X12 V (Proc.devRef .tc main_while0b_v70) = X6 V (Proc.devRef .tc main_while0b_v70) from
        (keep12).trans ((keep11).trans ((keep10).trans ((keep9).trans ((keep8).trans keep7))))]
    exact at_sym hp ht H C b

theorem next_at_rowL (r : Fin 512) (b : Fin 16) (hrt : r.val < t + 1) :
    (X18 V (Proc.devRef .tc main_v6_16) : S512x16.Idx → BitVec 32) (ix2 r b) = outLab p b r.val := by
  rw [show X18 V (Proc.devRef .tc main_v6_16) = _ from next_rowL (X17 V),
    show X17 V (Proc.devRef .tc main_while0b_v82) = X16 V (Proc.devRef .tc main_while0b_v82) from keep17]
  have hctr : X15 V (Proc.devRef .tc main_v6_12) = fun _ => BitVec.ofNat 32 t :=
    ((keep15).trans ((keep14).trans ((keep13).trans ((keep12).trans ((keep11).trans ((keep10).trans ((keep9).trans ((keep8).trans ((keep7).trans
      ((keep6).trans ((keep5).trans ((keep4).trans ((keep3).trans ((keep2).trans ((keep1).trans keep0))))))))))))))).trans C.ctr
  refine (read_rowL (X15 V) t ht hctr r b).trans ?_
  rw [show X15 V (Proc.devRef .tc main_while0b_v78) = X12 V (Proc.devRef .tc main_while0b_v78) from
      (keep15).trans ((keep14).trans keep13), at_emit hp ht H C,
    show X15 V (Proc.devRef .tc main_v6_16) = V (Proc.devRef .tc main_v6_16) from
      ((keep15).trans ((keep14).trans ((keep13).trans ((keep12).trans ((keep11).trans ((keep10).trans ((keep9).trans ((keep8).trans ((keep7).trans
      ((keep6).trans ((keep5).trans ((keep4).trans ((keep3).trans ((keep2).trans ((keep1).trans keep0)))))))))))))))]
  by_cases e : r.val = t
  · rw [if_pos e, e]
  · rw [if_neg e, C.rowL r b (by omega)]

theorem next_at_rowS (r : Fin 512) (b : Fin 16) (hrt : r.val < t + 1) :
    (X18 V (Proc.devRef .tc main_v6_17) : S512x16.Idx → EReal) (ix2 r b) = outScore p b r.val := by
  rw [show X18 V (Proc.devRef .tc main_v6_17) = _ from next_rowS (X17 V)]
  have hctr : X16 V (Proc.devRef .tc main_v6_12) = fun _ => BitVec.ofNat 32 t :=
    ((keep16).trans ((keep15).trans ((keep14).trans ((keep13).trans ((keep12).trans ((keep11).trans ((keep10).trans ((keep9).trans ((keep8).trans ((keep7).trans
      ((keep6).trans ((keep5).trans ((keep4).trans ((keep3).trans ((keep2).trans ((keep1).trans keep0)))))))))))))))).trans C.ctr
  refine (read_rowS (X16 V) t ht hctr r b).trans ?_
  rw [show X16 V (Proc.devRef .tc main_while0b_v81) = X15 V (Proc.devRef .tc main_while0b_v81) from keep16, at_score hp ht H C,
    show X16 V (Proc.devRef .tc main_v6_17) = V (Proc.devRef .tc main_v6_17) from
      ((keep16).trans ((keep15).trans ((keep14).trans ((keep13).trans ((keep12).trans ((keep11).trans ((keep10).trans ((keep9).trans ((keep8).trans ((keep7).trans
      ((keep6).trans ((keep5).trans ((keep4).trans ((keep3).trans ((keep2).trans ((keep1).trans keep0))))))))))))))))]
  by_cases e : r.val = t
  · rw [if_pos e, e]
  · rw [if_neg e, C.rowS r b (by omega)]

end

end Cert.ReferenceIdeal.Own
-- ==== Proof.ParOf.lean ====
/- The decoder's parameters off the eleven arrays of the problem. -/
module

public import proofs.«01_k».proof.Proof.Spec
public import Idealize.ShloMosaic.Lib.Pointwise

@[expose] public section

noncomputable section

namespace Decoder

open Idealize.ShloMosaic

/-- The parameters that the arrays hold. -/
def parOf (a0 : (⟨3, ![16, 512, 512]⟩ : Shape).Idx → EReal) (a1 : (⟨1, ![16]⟩ : Shape).Idx → BitVec 32)
    (a2 : (⟨2, ![1024, 320]⟩ : Shape).Idx → EReal) (a3 a4 : (⟨2, ![320, 1280]⟩ : Shape).Idx → EReal)
    (a5 : (⟨1, ![1280]⟩ : Shape).Idx → EReal) (a6 : (⟨2, ![512, 320]⟩ : Shape).Idx → EReal)
    (a7 : (⟨2, ![320, 320]⟩ : Shape).Idx → EReal) (a8 : (⟨1, ![320]⟩ : Shape).Idx → EReal)
    (a9 : (⟨2, ![320, 1024]⟩ : Shape).Idx → EReal) (a10 : (⟨1, ![1024]⟩ : Shape).Idx → EReal) : Par where
  enc b t d := a0 (ix3 b t d)
  lens b := a1 (ix1 b)
  emb l k := a2 (ix2 l k)
  wih k j := a3 (ix2 k j)
  whh k j := a4 (ix2 k j)
  bl j := a5 (ix1 j)
  wenc d j := a6 (ix2 d j)
  wp k j := a7 (ix2 k j)
  bj j := a8 (ix1 j)
  wo j v := a9 (ix2 j v)
  bo v := a10 (ix1 v)

end Decoder
-- ==== Proof.RefValue.lean ====
/- What the reference's run ends with: every row's labels and scores of all steps, by induction over the loop's trips. -/
module

public import proofs.«01_k».proof.Proof.RefFrame
public import proofs.«01_k».proof.Proof.RefStep
public import proofs.«01_k».proof.Proof.ParOf

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value
open Decoder

variable (m : (ℓ : Loc nD τ sig) → Buf (Elt Ideal) ℓ) (ρ : Dev nD → PrngReg)

/-- The parameters that a launch's arguments hold. -/
def par (c : Dev nD) : Par :=
  parOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The buffers before the loop hold what the host operations before it left there. -/
theorem entry_eq (c : Dev nD) : entryContents (preI (F := Ideal)) m c = after hostOps0 (launchContents m c) := rfl

section
variable (V : Valuation τ sig (Elt Ideal))

theorem entry_0 : after hostOps0 V (Proc.devRef .tc main_v6_0) = iotaInDim S512 32 0 := by after_results; rfl
theorem entry_1 : after hostOps0 V (Proc.devRef .tc main_v6_1) = V (Proc.devRef .tc main_arg1) := by after_results; rfl
theorem entry_2 : after hostOps0 V (Proc.devRef .tc main_v6_2) = V (Proc.devRef .tc main_arg0) := by after_results; rfl
theorem entry_3 : after hostOps0 V (Proc.devRef .tc main_v6_3) = V (Proc.devRef .tc main_arg2) := by after_results; rfl
theorem entry_4 : after hostOps0 V (Proc.devRef .tc main_v6_4) = V (Proc.devRef .tc main_arg3) := by after_results; rfl
theorem entry_5 : after hostOps0 V (Proc.devRef .tc main_v6_5) = V (Proc.devRef .tc main_arg4) := by after_results; rfl
theorem entry_6 : after hostOps0 V (Proc.devRef .tc main_v6_6) = V (Proc.devRef .tc main_arg5) := by after_results; rfl
theorem entry_7 : after hostOps0 V (Proc.devRef .tc main_v6_7) = V (Proc.devRef .tc main_arg6) := by after_results; rfl
theorem entry_8 : after hostOps0 V (Proc.devRef .tc main_v6_8) = V (Proc.devRef .tc main_arg7) := by after_results; rfl
theorem entry_9 : after hostOps0 V (Proc.devRef .tc main_v6_9) = V (Proc.devRef .tc main_arg8) := by after_results; rfl
theorem entry_10 : after hostOps0 V (Proc.devRef .tc main_v6_10) = V (Proc.devRef .tc main_arg9) := by after_results; rfl
theorem entry_11 : after hostOps0 V (Proc.devRef .tc main_v6_11) = V (Proc.devRef .tc main_arg10) := by after_results; rfl
theorem entry_h : after hostOps0 V (Proc.devRef .tc main_v6_13)
    = broadcastInDim S16x320 ![] bcast_S_S16x320 (constant (F := Ideal) S_ .f32 0x00000000#32) := by after_results; rfl
theorem entry_c : after hostOps0 V (Proc.devRef .tc main_v6_14)
    = broadcastInDim S16x320 ![] bcast_S_S16x320 (constant (F := Ideal) S_ .f32 0x00000000#32) := by after_results; rfl
theorem entry_l : after hostOps0 V (Proc.devRef .tc main_v6_15)
    = broadcastInDim S16 ![] bcast_S_S16 (constantI S_ 32 0#32) := by after_results; rfl

theorem final_L : after hostOps0_1 V (Proc.devRef .tc main_v7)
    = transpose S16x512 [1, 0] (V (Proc.devRef .tc main_v6_16)) transposes_S512x16_S16x512_1_0 := by
  after_results
theorem final_S : after hostOps0_1 V (Proc.devRef .tc main_v8)
    = transpose S16x512 [1, 0] (V (Proc.devRef .tc main_v6_17)) transposes_S512x16_S16x512_1_0 := by
  after_results

end

/-- The buffers that a trip only reads hold the launch's parameters before every trip. -/
theorem holds (c : Dev nD) (k : ℕ) : Holds (par m c) (atK m k c) where
  clock := (atK_keeps m c main_v6_0 (by decide +kernel) k).trans (entry_0 _)
  lens b := congrFun ((atK_keeps m c main_v6_1 (by decide +kernel) k).trans (entry_1 _)) (ix1 b)
  enc b t d := congrFun ((atK_keeps m c main_v6_2 (by decide +kernel) k).trans (entry_2 _)) (ix3 b t d)
  emb l j := congrFun ((atK_keeps m c main_v6_3 (by decide +kernel) k).trans (entry_3 _)) (ix2 l j)
  wih i j := congrFun ((atK_keeps m c main_v6_4 (by decide +kernel) k).trans (entry_4 _)) (ix2 i j)
  whh i j := congrFun ((atK_keeps m c main_v6_5 (by decide +kernel) k).trans (entry_5 _)) (ix2 i j)
  bl j := congrFun ((atK_keeps m c main_v6_6 (by decide +kernel) k).trans (entry_6 _)) (ix1 j)
  wenc i j := congrFun ((atK_keeps m c main_v6_7 (by decide +kernel) k).trans (entry_7 _)) (ix2 i j)
  wp i j := congrFun ((atK_keeps m c main_v6_8 (by decide +kernel) k).trans (entry_8 _)) (ix2 i j)
  bj j := congrFun ((atK_keeps m c main_v6_9 (by decide +kernel) k).trans (entry_9 _)) (ix1 j)
  wo i j := congrFun ((atK_keeps m c main_v6_10 (by decide +kernel) k).trans (entry_10 _)) (ix2 i j)
  bo j := congrFun ((atK_keeps m c main_v6_11 (by decide +kernel) k).trans (entry_11 _)) (ix1 j)

/-- The loop's counter as a word. -/
theorem iv_word (k : ℕ) : Scf.iv 0#32 1#32 k = BitVec.ofNat 32 k := by
  simp [Scf.iv]

/-- The zeros that the states begin at. -/
theorem zeros_apply (i : S16x320.Idx) :
    (broadcastInDim S16x320 ![] bcast_S_S16x320 (constant (F := Ideal) S_ .f32 0x00000000#32) : S16x320.Idx → EReal) i = 0 :=
  Ideal.ofBits_zero_f32

/-- Before every trip the carried buffers hold every row's state. -/
theorem carries (c : Dev nD) (hp : Decoder.Real (par m c)) : ∀ k, k ≤ 512 → Carries (par m c) k (atK m k c)
  | 0, _ => by
    refine ⟨(atK_ctr m c 0).trans (by rw [iv_word]), fun b k => ?_, fun b k => ?_, fun b => ?_,
      fun r b h => absurd h (Nat.not_lt_zero _), fun r b h => absurd h (Nat.not_lt_zero _)⟩
    · exact (congrFun (entry_h (launchContents m c)) (ix2 b k)).trans (zeros_apply _)
    · exact (congrFun (entry_c (launchContents m c)) (ix2 b k)).trans (zeros_apply _)
    · exact congrFun (entry_l (launchContents m c)) (ix1 b)
  | k + 1, hk => by
    have C := carries c hp k (by omega)
    have H := holds m c k
    have ht : k < 512 := by omega
    refine ⟨(atK_ctr m c (k + 1)).trans (by rw [iv_word]), fun b j => ?_, fun b j => ?_, fun b => ?_, fun r b h => ?_,
      fun r b h => ?_⟩
    · exact next_at_h hp ht H C b j
    · exact next_at_c hp ht H C b j
    · exact next_at_l hp ht H C b
    · exact next_at_rowL hp ht H C r b h
    · exact next_at_rowS hp ht H C r b h

/-- All rows' labels of all steps. -/
def labels (p : Par) : (⟨2, ![16, 512]⟩ : Shape).Idx → BitVec 32 := fun i => outLab p (i 0) (i 1).val

/-- All rows' scores of all steps. -/
def scores (p : Par) : (⟨2, ![16, 512]⟩ : Shape).Idx → EReal := fun i => outScore p (i 0) (i 1).val

theorem final_labels (c : Dev nD) (hp : Decoder.Real (par m c)) :
    finalContents condOps preI bodyI postI 512 m c (Proc.devRef .tc main_v7) = labels (par m c) := by
  refine (final_L (after (condOps (F := Ideal)) (atK m 512 c))).trans ?_
  funext i
  obtain ⟨b, t, rfl⟩ : ∃ (b : Fin 16) (t : Fin 512), i = ix2 b t := ⟨_, _, eq_ix2 i⟩
  rw [show after (condOps (F := Ideal)) (atK m 512 c) (Proc.devRef .tc main_v6_16) = atK m 512 c (Proc.devRef .tc main_v6_16) from keep0]
  refine Eq.trans ?_ ((carries m c hp 512 le_rfl).rowL t b t.isLt)
  pointwise

theorem final_scores (c : Dev nD) (hp : Decoder.Real (par m c)) :
    finalContents condOps preI bodyI postI 512 m c (Proc.devRef .tc main_v8) = scores (par m c) := by
  refine (final_S (after (condOps (F := Ideal)) (atK m 512 c))).trans ?_
  funext i
  obtain ⟨b, t, rfl⟩ : ∃ (b : Fin 16) (t : Fin 512), i = ix2 b t := ⟨_, _, eq_ix2 i⟩
  rw [show after (condOps (F := Ideal)) (atK m 512 c) (Proc.devRef .tc main_v6_17) = atK m 512 c (Proc.devRef .tc main_v6_17) from keep0]
  refine Eq.trans ?_ ((carries m c hp 512 le_rfl).rowS t b t.isLt)
  pointwise

/-- The reference's run ends with all rows' labels and scores, its arguments as launched. -/
theorem run_value (hp : ∀ c, Decoder.Real (par m c)) :
    θ_run (defs (F := Ideal)) (onTc (τ := τ) (main (F := Ideal))) ⟨m, fun _ => 0, ρ⟩ (fun r => ∀ c : Dev nD,
      r.2.mem ((c.tc : Thread nD τ).loc main_v7) = labels (par m c)
      ∧ r.2.mem ((c.tc : Thread nD τ).loc main_v8) = scores (par m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Idealize.ShloMosaic.θ_run_mono (run_fold m ρ) (fun r h c =>
    ⟨(h c main_v7 (by decide)).trans (final_labels m c (hp c)), (h c main_v8 (by decide)).trans (final_scores m c (hp c)),
    (h c main_arg0 (by decide)).trans (final_keeps m c main_arg0 (by decide +kernel) (by decide +kernel) (by decide +kernel)),
    (h c main_arg1 (by decide)).trans (final_keeps m c main_arg1 (by decide +kernel) (by decide +kernel) (by decide +kernel)),
    (h c main_arg2 (by decide)).trans (final_keeps m c main_arg2 (by decide +kernel) (by decide +kernel) (by decide +kernel)),
    (h c main_arg3 (by decide)).trans (final_keeps m c main_arg3 (by decide +kernel) (by decide +kernel) (by decide +kernel)),
    (h c main_arg4 (by decide)).trans (final_keeps m c main_arg4 (by decide +kernel) (by decide +kernel) (by decide +kernel)),
    (h c main_arg5 (by decide)).trans (final_keeps m c main_arg5 (by decide +kernel) (by decide +kernel) (by decide +kernel)),
    (h c main_arg6 (by decide)).trans (final_keeps m c main_arg6 (by decide +kernel) (by decide +kernel) (by decide +kernel)),
    (h c main_arg7 (by decide)).trans (final_keeps m c main_arg7 (by decide +kernel) (by decide +kernel) (by decide +kernel)),
    (h c main_arg8 (by decide)).trans (final_keeps m c main_arg8 (by decide +kernel) (by decide +kernel) (by decide +kernel)),
    (h c main_arg9 (by decide)).trans (final_keeps m c main_arg9 (by decide +kernel) (by decide +kernel) (by decide +kernel)),
    (h c main_arg10 (by decide)).trans (final_keeps m c main_arg10 (by decide +kernel) (by decide +kernel) (by decide +kernel))⟩)

end Cert.ReferenceIdeal.Own
-- ==== Proof.KerProj.lean ====
/-
  The projection kernel's array: each of its eight grid points writes 1024 rows of the product of the encoder's rows with
  the projection's weights, the bias added to every row; the blocks fill the array.
-/
module

public import proofs.«01_k».proof.Proof.Gen.KernelIdeal.Frame
public import Idealize.ShloMosaic.Lib.Pointwise
public import Idealize.ShloMosaic.Lib.IdealHost
public import Idealize.ShloMosaic.Lib.Pipeline.Value

@[expose] public section

set_option maxRecDepth 16384

noncomputable section

namespace Cert.KernelIdeal.Own

open Idealize.ShloMosaic Idealize.ShloMosaic.TcCoe Idealize.SL.Sem
open Cert.KernelIdeal Cert.KernelIdeal.Gen
open Idealize.ShloMosaic.Pipeline (Dat)

/-- The rows' product with the weights and the bias. -/
def projRows (x : Vec Ideal S8192x512 .f32) (w : Vec Ideal S512x320 .f32) (b : Vec Ideal S1x320 .f32) :
    S8192x320.Idx → EReal :=
  fun i => (∑ d : Fin 512, x (ix2 (i 0) d) * w (ix2 d (i 1))) + b (ix2 0 (i 1))

/-- One block of rows. -/
theorem block_apply (x : Vec Ideal S1024x512 .f32) (w : Vec Ideal S512x320 .f32) (b : Vec Ideal S1x320 .f32)
    (r : Fin 1024) (j : Fin 320) :
    k0_pay1 x w b (ix2 r j) = (∑ d : Fin 512, x (ix2 r d) * w (ix2 d j)) + b (ix2 0 j) := by
  unfold k0_pay1
  pointwise

theorem hz2 : (![0, 0] : Fin 2 → Nat) = fun _ => 0 := funext fun a => by fin_cases a <;> rfl

/-- The windows' first rows. -/
theorem rows0 : ∀ t : Fin cfg0.N, win0_0.index t 0 * 1024 = t.val * 1024 ∧ win0_0.index t 1 * 512 = 0
    ∧ win0_3.index t 0 * 1024 = t.val * 1024 ∧ win0_3.index t 1 * 320 = 0
    ∧ win0_1.index t 0 * 512 = 0 ∧ win0_1.index t 1 * 320 = 0 ∧ win0_2.index t 0 * 1 = 0 ∧ win0_2.index t 1 * 320 = 0 := by
  decide +kernel

variable (V : (c : Dev nD) → (b : Ref sig .tc) → Buf (Elt Ideal) ((c : Thread nD τ).loc b))

/-- What a point writes back is its rows of the whole. -/
theorem flushed0 (c : Dev nD) (t : Fin cfg0.N) :
    (dat0 V c).flushed 3 t
      = (win0_3.blk t).view.read (Elt Ideal) (projRows (V c main_v1) (V c main_arg6) (V c main_v2)) := by
  show (cfg0.win 3).cut (grid0.coords t) ((dat0 V c).after 3 t) = _
  rw [after0_3]
  unfold out0_3
  rw [View.canon_unit_zero hz2, View.ld_unit_zero hz2, View.ld_unit_zero hz2, View.ld_unit_zero hz2]
  obtain ⟨h0, h1, h2, h3, h4, h5, h6, h7⟩ := rows0 t
  have hN : t.val < 8 := t.isLt
  refine funext fun (y : S1024x320.Idx) => ?_
  obtain ⟨r, j, rfl⟩ : ∃ (r : Fin 1024) (j : Fin 320), y = ix2 r j := ⟨y 0, y 1, eq_ix2 y⟩
  have hr := r.isLt
  refine (block_apply _ _ _ r j).trans ?_
  have e3 : (win0_3.rect t).emb (ix2 r j) = (ix2 ⟨t.val * 1024 + r.val, by omega⟩ j : S8192x320.Idx) := by
    funext a
    fin_cases a
    · exact Fin.ext (by show win0_3.index t 0 * 1024 + 1 * r.val = _; rw [h2]; show _ = t.val * 1024 + r.val; omega)
    · exact Fin.ext (by show win0_3.index t 1 * 320 + 1 * j.val = _; rw [h3]; show _ = j.val; omega)
  have e0 : ∀ d : Fin 512, iblk0 V c 0 t (ix2 r d) = V c main_v1 (ix2 ⟨t.val * 1024 + r.val, by omega⟩ d : S8192x512.Idx) := by
    intro d
    refine congrArg (V c main_v1) (funext fun a => ?_)
    fin_cases a
    · exact Fin.ext (by show win0_0.index t 0 * 1024 + 1 * r.val = _; rw [h0]; show _ = t.val * 1024 + r.val; omega)
    · exact Fin.ext (by show win0_0.index t 1 * 512 + 1 * d.val = _; rw [h1]; show _ = d.val; omega)
  have e1 : ∀ d : Fin 512, iblk0 V c 1 t (ix2 d j) = V c main_arg6 (ix2 d j : S512x320.Idx) := by
    intro d
    refine congrArg (V c main_arg6) (funext fun a => ?_)
    fin_cases a
    · exact Fin.ext (by show win0_1.index t 0 * 512 + 1 * d.val = _; rw [h4]; show _ = d.val; omega)
    · exact Fin.ext (by show win0_1.index t 1 * 320 + 1 * j.val = _; rw [h5]; show _ = j.val; omega)
  have e2 : iblk0 V c 2 t (ix2 0 j) = V c main_v2 (ix2 0 j : S1x320.Idx) := by
    refine congrArg (V c main_v2) (funext fun a => ?_)
    fin_cases a
    · exact Fin.ext (by show win0_2.index t 0 * 1 + 1 * 0 = _; rw [h6]; rfl)
    · exact Fin.ext (by show win0_2.index t 1 * 320 + 1 * j.val = _; rw [h7]; show _ = j.val; omega)
  have e : ∀ G : S8192x320.Idx → EReal, (win0_3.blk t).view.read (Elt Ideal) G (ix2 r j) = G ((win0_3.rect t).emb (ix2 r j)) := fun _ => rfl
  rw [e, e3, e2]
  simp only [e0, e1]
  rfl

/-- The blocks fill the array. -/
theorem cover0 (i : S8192x320.Idx) : ∃ t : Fin cfg0.N, (cfg0.win 3).flush t = true ∧ i ∈ ((cfg0.win 3).blk t).view.set := by
  have hi0 : (i 0).val < 8192 := (i 0).isLt
  have hi1 : (i 1).val < 320 := (i 1).isLt
  have hN : cfg0.N = 8 := by decide
  obtain ⟨t, ht⟩ : ∃ t : Fin cfg0.N, t.val = (i 0).val / 1024 := ⟨⟨(i 0).val / 1024, by omega⟩, rfl⟩
  refine ⟨t, flush0_3 _, ?_⟩
  show i ∈ ((View.whole main_v3).slice (win0_3.rect t)).set
  rw [View.set_slice_whole, Rect.mem_set_unit]
  obtain ⟨-, -, h2, h3, -⟩ := rows0 t
  intro a
  fin_cases a
  · show win0_3.index t 0 * 1024 ≤ (i 0).val ∧ (i 0).val < win0_3.index t 0 * 1024 + 1024
    rw [h2]
    omega
  · show win0_3.index t 1 * 320 ≤ (i 1).val ∧ (i 1).val < win0_3.index t 1 * 320 + 320
    rw [h3]
    omega

/-- So the array ends at the whole. -/
theorem final0 (c : Dev nD) :
    (dat0 V c).arrAt 3 cfg0.N = projRows (V c main_v1) (V c main_arg6) (V c main_v2) :=
  (dat0 V c).arrAt_eq_of_cover 3 (projRows (V c main_v1) (V c main_arg6) (V c main_v2)) (fun t _ => flushed0 V c t) cover0

end Cert.KernelIdeal.Own
-- ==== Proof.KerTrip.lean ====
/- One trip of each of the decoder's four loops is one step function of the vectors it loads: the same for all
   four but for the first time step of the loop's chunk. -/
module

public import proofs.«01_k».proof.Proof.Gen.KernelIdeal.Loops
public import Idealize.ShloMosaic.PureOps.Ideal

@[expose] public section

set_option maxRecDepth 16384

noncomputable section

namespace Cert.KernelIdeal.Own

open Idealize.ShloMosaic Idealize.ShloMosaic.TcCoe
open Cert.KernelIdeal Cert.KernelIdeal.Gen

/-- What a trip carries: the hidden states, the cell states, the last labels, the chunk's labels and its scores. -/
abbrev Acc := FVec Ideal S16x320 .f32 × FVec Ideal S16x320 .f32 × IVec S16x1 32 × IVec S16x128 32 × FVec Ideal S16x128 .f32

/-- The column of each lane of the vocabulary. -/
abbrev lanes : IVec S16x1024 32 := iota .tc S16x1024 32 [1] iota_S16x1024_d1_w32

/-- The column of each lane of a chunk. -/
abbrev cols : IVec S16x128 32 := iota .tc S16x128 32 [1] iota_S16x128_d1_w32

/-- The vectors that every trip loads alike. -/
structure Mats where
  /-- Each row's number of steps. -/
  len : IVec S16x1 32
  /-- The embedding table. -/
  emb : Vec Ideal S1024x320 .f32
  /-- The cell's weights of its input. -/
  wih : Vec Ideal S320x1280 .f32
  /-- The cell's weights of its hidden state. -/
  whh : Vec Ideal S320x1280 .f32
  /-- The cell's bias. -/
  bl : Vec Ideal S1x1280 .f32
  /-- The joint network's weights of the prediction network's output. -/
  wp : Vec Ideal S320x320 .f32
  /-- The output weights. -/
  wo : Vec Ideal S320x1024 .f32
  /-- The output bias. -/
  bo : Vec Ideal S1x1024 .f32

section
variable (w : Mats) (e : Vec Ideal S1x16x320 .f32) (a : Acc)

/-- The cell's next states. -/
def cellK : FVec Ideal S16x320 .f32 := k1_pay14 lanes a.1 a.2.1 a.2.2.1 w.emb w.wih w.whh w.bl

/-- The next hidden states. -/
def hidK : FVec Ideal S16x320 .f32 := k1_pay15 lanes a.1 a.2.1 a.2.2.1 w.emb w.wih w.whh w.bl

/-- The logits less their bias. -/
def preK : FVec Ideal S16x1024 .f32 := k1_pay16 lanes a.1 a.2.1 a.2.2.1 w.emb w.wih w.whh w.bl e w.wp w.wo

/-- One step, at time `t` and the chunk's column `tt`. -/
def stepK (t tt : BitVec 32) : Acc :=
  (k1_pay7 lanes w.len a.1 t (hidK w a) (preK w e a) w.bo,
   k1_pay8 lanes w.len a.2.1 t (cellK w a) (preK w e a) w.bo,
   k1_pay9 lanes w.len a.2.2.1 t (preK w e a) w.bo,
   k1_pay11 lanes cols w.len a.2.2.2.1 tt t (preK w e a) w.bo,
   k1_pay12 cols a.2.2.2.2 tt (preK w e a) w.bo)

end

theorem trip1_eq (𝒱 : Variants) (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32) (X_arg1 : BufTy.Contents (Elt Ideal) arg1.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k1_t1_loop.trips) (acc : FVec Ideal S16x320 .f32 × FVec Ideal S16x320 .f32 × IVec S16x1 32 × IVec S16x128 32 × FVec Ideal S16x128 .f32) :
    tripR_k1_t1 (F := Ideal) 𝒱 c bd i arg1 harg1 arg2 harg2 arg3 harg3 arg4 harg4 arg5 harg5 arg6 harg6 arg7 harg7 arg8 harg8 arg9 harg9 arg10 harg10 arg11 harg11 lanes v2 X_arg1 X_arg3 X_arg4 X_arg5 X_arg6 X_arg7 X_arg8 X_arg9 k acc
      = stepK ⟨k1_pay29 v2, (View.readAt (Elt Ideal) arg3.view (Rect.unit ![0, 0] S1024x320.size inb_S1024x320_S1024x320_0_0).toLoadRect X_arg3), (View.readAt (Elt Ideal) arg4.view (Rect.unit ![0, 0] S320x1280.size inb_S320x1280_S320x1280_0_0).toLoadRect X_arg4), (View.readAt (Elt Ideal) arg5.view (Rect.unit ![0, 0] S320x1280.size inb_S320x1280_S320x1280_0_0).toLoadRect X_arg5), (View.readAt (Elt Ideal) arg6.view (Rect.unit ![0, 0] S1x1280.size inb_S1x1280_S1x1280_0_0).toLoadRect X_arg6), (View.readAt (Elt Ideal) arg7.view (Rect.unit ![0, 0] S320x320.size inb_S320x320_S320x320_0_0).toLoadRect X_arg7), (View.readAt (Elt Ideal) arg8.view (Rect.unit ![0, 0] S320x1024.size inb_S320x1024_S320x1024_0_0).toLoadRect X_arg8), (View.readAt (Elt Ideal) arg9.view (Rect.unit ![0, 0] S1x1024.size inb_S1x1024_S1x1024_0_0).toLoadRect X_arg9)⟩
          (View.readAt (Elt Ideal) arg1.view (Rect.unit (s := S512x16x320) (k1_off1 k) S1x16x320.size (k1_off1_inb k)).toLoadRect X_arg1) acc (Scalar.addi 0#32 (Scf.iv 0#32 1#32 k.val)) (Scf.iv 0#32 1#32 k.val) := by
  unfold tripR_k1_t1 trip_k1_t1
  rfl

theorem trip2_eq (𝒱 : Variants) (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32) (X_arg1 : BufTy.Contents (Elt Ideal) arg1.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k1_t2_loop.trips) (acc : FVec Ideal S16x320 .f32 × FVec Ideal S16x320 .f32 × IVec S16x1 32 × IVec S16x128 32 × FVec Ideal S16x128 .f32) :
    tripR_k1_t2 (F := Ideal) 𝒱 c bd i arg1 harg1 arg2 harg2 arg3 harg3 arg4 harg4 arg5 harg5 arg6 harg6 arg7 harg7 arg8 harg8 arg9 harg9 arg10 harg10 arg11 harg11 lanes v2 X_arg1 X_arg3 X_arg4 X_arg5 X_arg6 X_arg7 X_arg8 X_arg9 k acc
      = stepK ⟨k1_pay29 v2, (View.readAt (Elt Ideal) arg3.view (Rect.unit ![0, 0] S1024x320.size inb_S1024x320_S1024x320_0_0).toLoadRect X_arg3), (View.readAt (Elt Ideal) arg4.view (Rect.unit ![0, 0] S320x1280.size inb_S320x1280_S320x1280_0_0).toLoadRect X_arg4), (View.readAt (Elt Ideal) arg5.view (Rect.unit ![0, 0] S320x1280.size inb_S320x1280_S320x1280_0_0).toLoadRect X_arg5), (View.readAt (Elt Ideal) arg6.view (Rect.unit ![0, 0] S1x1280.size inb_S1x1280_S1x1280_0_0).toLoadRect X_arg6), (View.readAt (Elt Ideal) arg7.view (Rect.unit ![0, 0] S320x320.size inb_S320x320_S320x320_0_0).toLoadRect X_arg7), (View.readAt (Elt Ideal) arg8.view (Rect.unit ![0, 0] S320x1024.size inb_S320x1024_S320x1024_0_0).toLoadRect X_arg8), (View.readAt (Elt Ideal) arg9.view (Rect.unit ![0, 0] S1x1024.size inb_S1x1024_S1x1024_0_0).toLoadRect X_arg9)⟩
          (View.readAt (Elt Ideal) arg1.view (Rect.unit (s := S512x16x320) (k1_off2 k) S1x16x320.size (k1_off2_inb k)).toLoadRect X_arg1) acc (Scalar.addi 128#32 (Scf.iv 0#32 1#32 k.val)) (Scf.iv 0#32 1#32 k.val) := by
  unfold tripR_k1_t2 trip_k1_t2
  rfl

theorem trip3_eq (𝒱 : Variants) (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32) (X_arg1 : BufTy.Contents (Elt Ideal) arg1.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k1_t3_loop.trips) (acc : FVec Ideal S16x320 .f32 × FVec Ideal S16x320 .f32 × IVec S16x1 32 × IVec S16x128 32 × FVec Ideal S16x128 .f32) :
    tripR_k1_t3 (F := Ideal) 𝒱 c bd i arg1 harg1 arg2 harg2 arg3 harg3 arg4 harg4 arg5 harg5 arg6 harg6 arg7 harg7 arg8 harg8 arg9 harg9 arg10 harg10 arg11 harg11 lanes v2 X_arg1 X_arg3 X_arg4 X_arg5 X_arg6 X_arg7 X_arg8 X_arg9 k acc
      = stepK ⟨k1_pay29 v2, (View.readAt (Elt Ideal) arg3.view (Rect.unit ![0, 0] S1024x320.size inb_S1024x320_S1024x320_0_0).toLoadRect X_arg3), (View.readAt (Elt Ideal) arg4.view (Rect.unit ![0, 0] S320x1280.size inb_S320x1280_S320x1280_0_0).toLoadRect X_arg4), (View.readAt (Elt Ideal) arg5.view (Rect.unit ![0, 0] S320x1280.size inb_S320x1280_S320x1280_0_0).toLoadRect X_arg5), (View.readAt (Elt Ideal) arg6.view (Rect.unit ![0, 0] S1x1280.size inb_S1x1280_S1x1280_0_0).toLoadRect X_arg6), (View.readAt (Elt Ideal) arg7.view (Rect.unit ![0, 0] S320x320.size inb_S320x320_S320x320_0_0).toLoadRect X_arg7), (View.readAt (Elt Ideal) arg8.view (Rect.unit ![0, 0] S320x1024.size inb_S320x1024_S320x1024_0_0).toLoadRect X_arg8), (View.readAt (Elt Ideal) arg9.view (Rect.unit ![0, 0] S1x1024.size inb_S1x1024_S1x1024_0_0).toLoadRect X_arg9)⟩
          (View.readAt (Elt Ideal) arg1.view (Rect.unit (s := S512x16x320) (k1_off3 k) S1x16x320.size (k1_off3_inb k)).toLoadRect X_arg1) acc (Scalar.addi 256#32 (Scf.iv 0#32 1#32 k.val)) (Scf.iv 0#32 1#32 k.val) := by
  unfold tripR_k1_t3 trip_k1_t3
  rfl

theorem trip4_eq (𝒱 : Variants) (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32) (X_arg1 : BufTy.Contents (Elt Ideal) arg1.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (k : Fin k1_t4_loop.trips) (acc : FVec Ideal S16x320 .f32 × FVec Ideal S16x320 .f32 × IVec S16x1 32 × IVec S16x128 32 × FVec Ideal S16x128 .f32) :
    tripR_k1_t4 (F := Ideal) 𝒱 c bd i arg1 harg1 arg2 harg2 arg3 harg3 arg4 harg4 arg5 harg5 arg6 harg6 arg7 harg7 arg8 harg8 arg9 harg9 arg10 harg10 arg11 harg11 lanes cols (k1_pay29 v2) X_arg1 X_arg3 X_arg4 X_arg5 X_arg6 X_arg7 X_arg8 X_arg9 k acc
      = stepK ⟨k1_pay29 v2, (View.readAt (Elt Ideal) arg3.view (Rect.unit ![0, 0] S1024x320.size inb_S1024x320_S1024x320_0_0).toLoadRect X_arg3), (View.readAt (Elt Ideal) arg4.view (Rect.unit ![0, 0] S320x1280.size inb_S320x1280_S320x1280_0_0).toLoadRect X_arg4), (View.readAt (Elt Ideal) arg5.view (Rect.unit ![0, 0] S320x1280.size inb_S320x1280_S320x1280_0_0).toLoadRect X_arg5), (View.readAt (Elt Ideal) arg6.view (Rect.unit ![0, 0] S1x1280.size inb_S1x1280_S1x1280_0_0).toLoadRect X_arg6), (View.readAt (Elt Ideal) arg7.view (Rect.unit ![0, 0] S320x320.size inb_S320x320_S320x320_0_0).toLoadRect X_arg7), (View.readAt (Elt Ideal) arg8.view (Rect.unit ![0, 0] S320x1024.size inb_S320x1024_S320x1024_0_0).toLoadRect X_arg8), (View.readAt (Elt Ideal) arg9.view (Rect.unit ![0, 0] S1x1024.size inb_S1x1024_S1x1024_0_0).toLoadRect X_arg9)⟩
          (View.readAt (Elt Ideal) arg1.view (Rect.unit (s := S512x16x320) (k1_off4 k) S1x16x320.size (k1_off4_inb k)).toLoadRect X_arg1) acc (Scalar.addi 384#32 (Scf.iv 0#32 1#32 k.val)) (Scf.iv 0#32 1#32 k.val) := by
  unfold tripR_k1_t4 trip_k1_t4
  rfl

end Cert.KernelIdeal.Own
-- ==== Proof.KerStep.lean ====
/- One step of the decoder's loops at a batch row: from the row's state before it to the row's state after it, and the
   label and the score that it puts into its column of the chunk. -/
module

public import proofs.«01_k».proof.Proof.KerTrip
public import proofs.«01_k».proof.Proof.Spec
public import Idealize.ShloMosaic.Lib.Pointwise
public import Idealize.ShloMosaic.Lib.IdealHost
public import Idealize.ShloMosaic.Lib.DynamicIndex
public import Idealize.ShloMosaic.Lib.WordCmp
public import Idealize.ShloMosaic.Lib.PlanTiles.Rows
public import Idealize.ShloMosaic.Lib.SortNet.Extract

@[expose] public section

set_option maxRecDepth 16384

noncomputable section

namespace Cert.KernelIdeal.Own

open Idealize.ShloMosaic
open Cert.KernelIdeal Cert.KernelIdeal.Gen
open Decoder

/-- The bits of the bottom. -/
theorem bits_bot : Ideal.ofBits .f32 0xFF800000#32 = (⊥ : EReal) := by
  unfold Ideal.ofBits
  simp +decide

/-- Two places below 2³¹ are one word exactly where they are one. -/
theorem word_eq_iff {n k : ℕ} (hn : n < 2 ^ 31) (hk : k < 2 ^ 31) : BitVec.ofNat 32 n = BitVec.ofNat 32 k ↔ n = k := by
  refine ⟨fun h => ?_, fun h => h ▸ rfl⟩
  have := congrArg BitVec.toInt h
  rw [toInt_ofNat_of_lt hn, toInt_ofNat_of_lt hk] at this
  exact_mod_cast this

/-- A label's lane of the one-hot vector. -/
theorem hot_apply (v l : Fin 1024) :
    (FloatOps.sitofp FTy.f32 (BitVec.setWidth 32 (IntOp.cmpi .eq (BitVec.ofNat 32 v.val) (BitVec.ofNat 32 l.val))) : Ideal .f32)
      = if v = l then (1 : EReal) else 0 := by
  rw [WordCmp.cmpi_eq_eq]
  by_cases h : v = l
  · rw [if_pos h, decide_eq_true ((word_eq_iff (by omega) (by omega)).2 (congrArg Fin.val h))]
    show (((BitVec.setWidth 32 (BitVec.ofBool true)).toInt : ℝ) : EReal) = 1
    simp
  · rw [if_neg h, decide_eq_false fun q => h (Fin.ext ((word_eq_iff (by omega) (by omega)).1 q))]
    show (((BitVec.setWidth 32 (BitVec.ofBool false)).toInt : ℝ) : EReal) = 0
    simp

/-- A one-hot row times a table is the table's row. -/
theorem hot_sum (f : Fin 1024 → EReal) (l : Fin 1024) : ∑ v, (if v = l then (1 : EReal) else 0) * f v = f l := by
  rw [Finset.sum_eq_single l]
  · rw [if_pos rfl, one_mul]
  · intro v _ hv
    rw [if_neg hv, zero_mul]
  · intro h
    exact absurd (Finset.mem_univ l) h

/-- The least lane at which the values are largest is the first place of the largest. -/
theorem min_lane (f : Fin 1024 → EReal) :
    (Finset.univ : Finset (Fin 1024)).fold IntOp.minsi 2147483647#32
        (fun v => if f v = f (best f) then BitVec.ofNat 32 v.val else 1024#32) = BitVec.ofNat 32 (best f).val := by
  apply BitVec.eq_of_toInt_eq
  have hhom := Finset.fold_hom (op := IntOp.minsi (w := 32)) (op' := min) (s := (Finset.univ : Finset (Fin 1024)))
    (b := 2147483647#32) (f := fun v => if f v = f (best f) then BitVec.ofNat 32 v.val else 1024#32) (m := BitVec.toInt)
    (fun x y => SortNet.toInt_minsi x y)
  rw [← hhom]
  have eb := toInt_ofNat_of_lt (k := (best f).val) (by omega)
  apply le_antisymm
  · refine Finset.fold_min_le _ |>.2 (.inr ⟨best f, Finset.mem_univ _, ?_⟩)
    rw [if_pos rfl]
  · refine Finset.le_fold_min _ |>.2 ⟨?_, fun v _ => ?_⟩
    · have : (2147483647#32).toInt = 2147483647 := by decide
      omega
    · by_cases h : f v = f (best f)
      · rw [if_pos h, eb, toInt_ofNat_of_lt (k := v.val) (by omega)]
        have : ¬ v < best f := fun q => absurd h ((best_spec f).2 v q).ne
        exact_mod_cast Fin.le_def.1 (not_lt.1 this)
      · rw [if_neg h]
        have : (1024#32).toInt = 1024 := by decide
        omega

/-- The bit that says that a row emits nothing. -/
theorem blank_bit (n : BitVec 32) (t : ℕ) (ht : t < 512) (s : Fin 1024) :
    IntOp.ori (IntOp.cmpi .eq (BitVec.ofNat 32 s.val) 0#32) (IntOp.cmpi .sge (BitVec.ofNat 32 t) n) = 1#1
      ↔ n.toInt ≤ (t : ℤ) ∨ s = 0 := by
  have e1 : IntOp.cmpi .sge (BitVec.ofNat 32 t) n = BitVec.ofBool (decide (n.toInt ≤ (t : ℤ))) := by
    show BitVec.ofBool (decide (n.toInt ≤ (BitVec.ofNat 32 t).toInt)) = _
    rw [toInt_ofNat_of_lt (by omega)]
  have e2 : IntOp.cmpi .eq (BitVec.ofNat 32 s.val) 0#32 = BitVec.ofBool (decide (s = 0)) := by
    rw [WordCmp.cmpi_eq_eq]
    congr 2
    exact propext ((word_eq_iff (k := 0) (by omega) (by omega)).trans ⟨fun h => Fin.ext h, fun h => congrArg Fin.val h⟩)
  rw [e1, e2]
  by_cases h1 : n.toInt ≤ (t : ℤ) <;> by_cases h2 : s = 0 <;> simp [h1, h2, IntOp.ori]

/-- A choice by a bit that is set exactly where a proposition holds. -/
theorem select_one_iff {α : Type} {q : BitVec 1} {P : Prop} [Decidable P] (h : q = 1#1 ↔ P) (x y : α) :
    Scalar.select q x y = if P then x else y := by
  show (if q = 1#1 then x else y) = _
  by_cases hP : P
  · rw [if_pos hP, if_pos (h.2 hP)]
  · rw [if_neg hP, if_neg fun e => hP (h.1 e)]

/-- A choice by whether two columns are one. -/
theorem select_col {α : Type} (x : Fin 128) {k : ℕ} (hk : k < 128) (u v : α) :
    Scalar.select (IntOp.cmpi .eq (BitVec.ofNat 32 x.val) (BitVec.ofNat 32 k)) u v = if x.val = k then u else v := by
  refine select_one_iff ?_ u v
  rw [WordCmp.cmpi_eq_eq]
  by_cases h : x.val = k
  · simp [h]
  · have : ¬ BitVec.ofNat 32 x.val = BitVec.ofNat 32 k := fun q => h ((word_eq_iff (by omega) (by omega)).1 q)
    simp [h, this]

section
variable (h c : FVec Ideal S16x320 .f32) (l : IVec S16x1 32) (w : Mats) (e : Vec Ideal S1x16x320 .f32)
  (z : FVec Ideal S16x1024 .f32) (bo : Vec Ideal S1x1024 .f32) (b : Fin 16)

theorem gates_apply (j : Fin 1280) :
    k1_pay13 lanes h l w.emb w.wih w.whh w.bl (ix2 b j)
      = (∑ k : Fin 320, (∑ v : Fin 1024, (FloatOps.sitofp FTy.f32 (BitVec.setWidth 32
            (IntOp.cmpi .eq (BitVec.ofNat 32 v.val) (l (ix2 b 0)))) : Ideal .f32) * w.emb (ix2 v k)) * w.wih (ix2 k j)
          + ∑ k : Fin 320, h (ix2 b k) * w.whh (ix2 k j)) + w.bl (ix2 0 j) := by
  unfold k1_pay13
  pointwise

theorem cell_apply (j : Fin 320) :
    k1_pay14 lanes h c l w.emb w.wih w.whh w.bl (ix2 b j)
      = Ideal.logistic (k1_pay13 lanes h l w.emb w.wih w.whh w.bl (ix2 b (at320 320 j))) * c (ix2 b j)
        + Ideal.logistic (k1_pay13 lanes h l w.emb w.wih w.whh w.bl (ix2 b (at320 0 j)))
          * Ideal.tanh (k1_pay13 lanes h l w.emb w.wih w.whh w.bl (ix2 b (at320 640 j))) := by
  unfold k1_pay14 at320
  generalize k1_pay13 lanes h l w.emb w.wih w.whh w.bl = g
  pointwise

theorem hid_apply (j : Fin 320) :
    k1_pay15 lanes h c l w.emb w.wih w.whh w.bl (ix2 b j)
      = Ideal.logistic (k1_pay13 lanes h l w.emb w.wih w.whh w.bl (ix2 b (at320 960 j)))
        * Ideal.tanh (k1_pay14 lanes h c l w.emb w.wih w.whh w.bl (ix2 b j)) := by
  unfold k1_pay15 at320
  generalize k1_pay13 lanes h l w.emb w.wih w.whh w.bl = g
  generalize k1_pay14 lanes h c l w.emb w.wih w.whh w.bl = g'
  pointwise

theorem pre_apply (v : Fin 1024) :
    k1_pay16 lanes h c l w.emb w.wih w.whh w.bl e w.wp w.wo (ix2 b v)
      = ∑ j : Fin 320, Ideal.tanh (e (ix3 0 b j)
          + ∑ k : Fin 320, k1_pay15 lanes h c l w.emb w.wih w.whh w.bl (ix2 b k) * w.wp (ix2 k j)) * w.wo (ix2 j v) := by
  unfold k1_pay16
  generalize k1_pay15 lanes h c l w.emb w.wih w.whh w.bl = g
  pointwise

theorem logits_apply (v : Fin 1024) : k1_pay3 z bo (ix2 b v) = (z (ix2 b v) + bo (ix2 0 v) : EReal) := by
  unfold k1_pay3
  pointwise

theorem top_apply : k1_pay4 z bo (ix2 b 0) = k1_pay3 z bo (ix2 b (best fun v => k1_pay3 z bo (ix2 b v))) := by
  have h : k1_pay4 z bo (ix2 b 0) = (Finset.univ : Finset (Fin 1024)).fold max (Ideal.ofBits .f32 0xFF800000#32)
      fun v => k1_pay3 z bo (ix2 b v) := by
    unfold k1_pay4
    generalize k1_pay3 z bo = g
    pointwise
  rw [h, bits_bot, fold_max_best fun v => k1_pay3 z bo (ix2 b v)]

theorem lane_apply : k1_pay5 lanes z bo (ix2 b 0) = BitVec.ofNat 32 (best fun v => k1_pay3 z bo (ix2 b v)).val := by
  have h : k1_pay5 lanes z bo (ix2 b 0) = (Finset.univ : Finset (Fin 1024)).fold IntOp.minsi 2147483647#32
      fun v => if k1_pay3 z bo (ix2 b v) = k1_pay4 z bo (ix2 b 0) then BitVec.ofNat 32 v.val else 1024#32 := by
    unfold k1_pay5
    generalize k1_pay3 z bo = g
    generalize k1_pay4 z bo = g'
    pointwise
  rw [h, top_apply, min_lane fun v => k1_pay3 z bo (ix2 b v)]

theorem still_apply (n : IVec S16x1 32) (t : BitVec 32) :
    k1_pay6 lanes n t z bo (ix2 b 0)
      = IntOp.ori (IntOp.cmpi .eq (k1_pay5 lanes z bo (ix2 b 0)) 0#32) (IntOp.cmpi .sge t (n (ix2 b 0))) := by
  unfold k1_pay6
  generalize k1_pay5 lanes z bo = g
  pointwise

theorem nextH_apply (n : IVec S16x1 32) (t : BitVec 32) (h' : FVec Ideal S16x320 .f32) (k : Fin 320) :
    k1_pay7 lanes n h t h' z bo (ix2 b k) = Scalar.select (k1_pay6 lanes n t z bo (ix2 b 0)) (h (ix2 b k)) (h' (ix2 b k)) := by
  unfold k1_pay7
  generalize k1_pay6 lanes n t z bo = g
  pointwise

theorem nextC_apply (n : IVec S16x1 32) (t : BitVec 32) (h' : FVec Ideal S16x320 .f32) (k : Fin 320) :
    k1_pay8 lanes n h t h' z bo (ix2 b k) = Scalar.select (k1_pay6 lanes n t z bo (ix2 b 0)) (h (ix2 b k)) (h' (ix2 b k)) := by
  unfold k1_pay8
  generalize k1_pay6 lanes n t z bo = g
  pointwise

theorem nextL_apply (n : IVec S16x1 32) (t : BitVec 32) :
    k1_pay9 lanes n l t z bo (ix2 b 0)
      = Scalar.select (k1_pay6 lanes n t z bo (ix2 b 0)) (l (ix2 b 0)) (k1_pay5 lanes z bo (ix2 b 0)) := rfl

theorem labs_apply (n : IVec S16x1 32) (t tt : BitVec 32) (a : IVec S16x128 32) (x : Fin 128) :
    k1_pay11 lanes cols n a tt t z bo (ix2 b x)
      = Scalar.select (IntOp.cmpi .eq (BitVec.ofNat 32 x.val) tt)
          (Scalar.select (k1_pay6 lanes n t z bo (ix2 b 0)) 0#32 (k1_pay5 lanes z bo (ix2 b 0))) (a (ix2 b x)) := by
  unfold k1_pay11 k1_pay10
  generalize k1_pay6 lanes n t z bo = g
  generalize k1_pay5 lanes z bo = g'
  pointwise

theorem scores_apply (tt : BitVec 32) (a : FVec Ideal S16x128 .f32) (x : Fin 128) :
    k1_pay12 cols a tt z bo (ix2 b x)
      = Scalar.select (IntOp.cmpi .eq (BitVec.ofNat 32 x.val) tt)
          (0 - Ideal.log (∑ v : Fin 1024, Ideal.exp (k1_pay3 z bo (ix2 b v) - k1_pay4 z bo (ix2 b 0))) : EReal) (a (ix2 b x)) := by
  unfold k1_pay12 k1_pay10
  generalize k1_pay3 z bo = g
  generalize k1_pay4 z bo = g'
  pointwise

end

/-- The loaded vectors hold the parameters. -/
structure Holds (p : Par) (w : Mats) : Prop where
  len : ∀ b, w.len (ix2 b 0) = p.lens b
  emb : ∀ l k, w.emb (ix2 l k) = p.emb l k
  wih : ∀ k j, w.wih (ix2 k j) = p.wih k j
  whh : ∀ k j, w.whh (ix2 k j) = p.whh k j
  bl : ∀ j, w.bl (ix2 0 j) = p.bl j
  wp : ∀ k j, w.wp (ix2 k j) = p.wp k j
  wo : ∀ j v, w.wo (ix2 j v) = p.wo j v
  bo : ∀ v, w.bo (ix2 0 v) = p.bo v

/-- The projected encoder's output of a row at a time. -/
def proj (p : Par) (b : Fin 16) (t : ℕ) (j : Fin 320) : EReal := ∑ d, encAt p b t d * p.wenc d j + p.bj j

/-- Before step `k` of the chunk that begins at time `o`, the carried vectors hold every row's state and the chunk's
    labels and scores so far. -/
structure Carries (p : Par) (o k : ℕ) (a : Acc) : Prop where
  h : ∀ b j, a.1 (ix2 b j) = (state p b (o + k)).h j
  c : ∀ b j, a.2.1 (ix2 b j) = (state p b (o + k)).c j
  l : ∀ b, a.2.2.1 (ix2 b 0) = BitVec.ofNat 32 (state p b (o + k)).lab.val
  labs : ∀ b (x : Fin 128), x.val < k → a.2.2.2.1 (ix2 b x) = outLab p b (o + x.val)
  scs : ∀ b (x : Fin 128), x.val < k → a.2.2.2.2 (ix2 b x) = outScore p b (o + x.val)

section
variable {p : Par} {w : Mats} (H : Holds p w) {o k : ℕ} {a : Acc} (C : Carries p o k a) {e : Vec Ideal S1x16x320 .f32}
  (he : ∀ b j, e (ix3 0 b j) = proj p b (o + k) j) (hk : k < 128) (ho : o + k < 512)

section
include H C

theorem gates_eq (b : Fin 16) (j : Fin 1280) :
    k1_pay13 lanes a.1 a.2.2.1 w.emb w.wih w.whh w.bl (ix2 b j) = gate p (state p b (o + k)) j := by
  rw [gates_apply, C.l, gate]
  simp only [hot_apply, H.emb, hot_sum, H.wih, H.whh, H.bl, C.h]

theorem cell_eq (b : Fin 16) (j : Fin 320) : cellK w a (ix2 b j) = cNew p (state p b (o + k)) j := by
  unfold cellK
  rw [cell_apply, gates_eq H C, gates_eq H C, gates_eq H C, C.c, cNew]

theorem hid_eq (b : Fin 16) (j : Fin 320) : hidK w a (ix2 b j) = hNew p (state p b (o + k)) j := by
  unfold hidK
  rw [hid_apply, gates_eq H C, hNew]
  exact congrArg (fun x => _ * Ideal.tanh x) (cell_eq H C b j)

include he

theorem logits_eq (b : Fin 16) (v : Fin 1024) :
    k1_pay3 (preK w e a) w.bo (ix2 b v) = logit p (encAt p b (o + k)) (state p b (o + k)) v := by
  rw [logits_apply, H.bo, logit]
  congr 1
  unfold preK
  rw [pre_apply]
  refine Finset.sum_congr rfl fun j _ => ?_
  rw [H.wo, he, joint]
  congr 2
  have : ∑ i : Fin 320, k1_pay15 lanes a.1 a.2.1 a.2.2.1 w.emb w.wih w.whh w.bl (ix2 b i) * w.wp (ix2 i j)
      = ∑ i, hNew p (state p b (o + k)) i * p.wp i j :=
    Finset.sum_congr rfl fun i _ => by rw [H.wp]; exact congrArg (· * _) (hid_eq H C b i)
  rw [this, proj, add_right_comm]

theorem lane_eq (b : Fin 16) :
    k1_pay5 lanes (preK w e a) w.bo (ix2 b 0) = BitVec.ofNat 32 (sym p (encAt p b (o + k)) (state p b (o + k))).val := by
  rw [lane_apply, sym]
  simp only [logits_eq H C he b]

include ho

theorem still_iff (b : Fin 16) :
    k1_pay6 lanes w.len (BitVec.ofNat 32 (o + k)) (preK w e a) w.bo (ix2 b 0) = 1#1
      ↔ blank p (encAt p b (o + k)) (p.lens b) (o + k) (state p b (o + k)) := by
  rw [still_apply, lane_eq H C he, H.len]
  exact blank_bit _ _ ho _

end

include H C he hk ho

/-- One step takes every row's state before it to every row's state after it. -/
theorem step_carries : Carries p o (k + 1) (stepK w e a (BitVec.ofNat 32 (o + k)) (BitVec.ofNat 32 k)) := by
  classical
  have hs : ∀ b, state p b (o + (k + 1))
      = if blank p (encAt p b (o + k)) (p.lens b) (o + k) (state p b (o + k)) then state p b (o + k)
        else ⟨hNew p (state p b (o + k)), cNew p (state p b (o + k)), sym p (encAt p b (o + k)) (state p b (o + k))⟩ :=
    fun b => by
      show next p _ _ _ _ = _
      unfold next
      congr
  refine ⟨fun b j => ?_, fun b j => ?_, fun b => ?_, fun b x hx => ?_, fun b x hx => ?_⟩
  · refine (nextH_apply _ _ _ _ _ _ _ _).trans ?_
    rw [select_one_iff (still_iff H C he ho b), C.h, hid_eq H C, hs]
    split <;> rfl
  · refine (nextC_apply _ _ _ _ _ _ _ _).trans ?_
    rw [select_one_iff (still_iff H C he ho b), C.c, cell_eq H C, hs]
    split <;> rfl
  · refine (nextL_apply _ _ _ _ _ _).trans ?_
    rw [select_one_iff (still_iff H C he ho b), C.l, lane_eq H C he, hs]
    split <;> rfl
  · refine (labs_apply _ _ _ _ _ _ _ _).trans ?_
    rw [select_col x hk]
    by_cases hxk : x.val = k
    · rw [if_pos hxk, select_one_iff (still_iff H C he ho b), lane_eq H C he, hxk, outLab]
    · rw [if_neg hxk]
      exact C.labs b x (by omega)
  · refine (scores_apply _ _ _ _ _ _).trans ?_
    rw [select_col x hk]
    by_cases hxk : x.val = k
    · rw [if_pos hxk, hxk, outScore, score, zero_sub, top_apply, sym]
      simp only [logits_eq H C he b]
    · rw [if_neg hxk]
      exact C.scs b x (by omega)

end

end Cert.KernelIdeal.Own
-- ==== Proof.KerIn.lean ====
/-
  What the decoding kernel is given: the host's operations around the projection kernel only lay arrays out anew, so its
  operands hold the problem's parameters and the projected encoder's outputs, time first.
-/
module

public import proofs.«01_k».proof.Proof.KerProj
public import proofs.«01_k».proof.Proof.KerStep
public import proofs.«01_k».proof.Proof.ParOf
public import Idealize.ShloMosaic.Lib.StableHlo.RunHlo

@[expose] public section

set_option maxRecDepth 16384

noncomputable section

namespace Cert.KernelIdeal.Own

open Idealize.ShloMosaic Idealize.ShloMosaic.TcCoe Idealize.SL.Sem
open Idealize.ShloMosaic.StableHlo
open Cert.KernelIdeal Cert.KernelIdeal.Gen
open Decoder

section
variable (V : Valuation τ sig (Elt Ideal))

theorem host0_rows : after hostOps0 V (Proc.devRef .tc main_v1)
    = shapeCast S8192x512 (transpose S512x16x512 [1, 0, 2] (V (Proc.devRef .tc main_arg0)) transposes_S16x512x512_S512x16x512_1_0_2)
        shapeCasts_S512x16x512_S8192x512 := by after_results; rfl
theorem host0_bias : after hostOps0 V (Proc.devRef .tc main_v2)
    = broadcastInDim S1x320 ![1] bcast_S320_S1x320_1 (V (Proc.devRef .tc main_arg8)) := by after_results
theorem host1_proj : after hostOps1 V (Proc.devRef .tc main_v4)
    = shapeCast S512x16x320 (V (Proc.devRef .tc main_v3)) shapeCasts_S8192x320_S512x16x320 := by after_results; rfl
theorem host1_lens : after hostOps1 V (Proc.devRef .tc main_v6)
    = broadcastInDim S16x128 ![0, 1] bcast_S16x1_S16x128_0_1
        (broadcastInDim S16x1 ![0] bcast_S16_S16x1_0 (V (Proc.devRef .tc main_arg1))) := by after_results
theorem host1_bl : after hostOps1 V (Proc.devRef .tc main_v7)
    = broadcastInDim S1x1280 ![1] bcast_S1280_S1x1280_1 (V (Proc.devRef .tc main_arg5)) := by after_results
theorem host1_bo : after hostOps1 V (Proc.devRef .tc main_v8)
    = broadcastInDim S1x1024 ![1] bcast_S1024_S1x1024_1 (V (Proc.devRef .tc main_arg10)) := by after_results

end

/-- The encoder's rows, time first. -/
theorem rows_apply (x : S16x512x512.Idx → EReal) (t : Fin 512) (b : Fin 16) (d : Fin 512) (hr : t.val * 16 + b.val < 8192) :
    shapeCast S8192x512 (transpose S512x16x512 [1, 0, 2] x transposes_S16x512x512_S512x16x512_1_0_2)
      shapeCasts_S512x16x512_S8192x512 (ix2 ⟨t.val * 16 + b.val, hr⟩ d) = x (ix3 b t d) := by
  refine (shapeCast_apply _ _ _ (ix3 t b d) ?_).trans ?_
  · rw [Shape.rowMajor_val_three, Shape.rowMajor_val_two]
    show (t.val * 16 + b.val) * 512 + d.val = (t.val * 16 + b.val) * 512 + d.val
    rfl
  · pointwise

/-- The rows with time and batch apart. -/
theorem apart_apply (x : S8192x320.Idx → EReal) (t : Fin 512) (b : Fin 16) (j : Fin 320) (hr : t.val * 16 + b.val < 8192) :
    shapeCast S512x16x320 x shapeCasts_S8192x320_S512x16x320 (ix3 t b j) = x (ix2 ⟨t.val * 16 + b.val, hr⟩ j) := by
  refine shapeCast_apply _ _ _ _ ?_
  rw [Shape.rowMajor_val_three, Shape.rowMajor_val_two]
  show (t.val * 16 + b.val) * 320 + j.val = (t.val * 16 + b.val) * 320 + j.val
  rfl

theorem bias_apply (x : S320.Idx → EReal) (j : Fin 320) : broadcastInDim S1x320 ![1] bcast_S320_S1x320_1 x (ix2 0 j) = x (ix1 j) := by
  pointwise
theorem bl_apply (x : S1280.Idx → EReal) (j : Fin 1280) : broadcastInDim S1x1280 ![1] bcast_S1280_S1x1280_1 x (ix2 0 j) = x (ix1 j) := by
  pointwise
theorem bo_apply (x : S1024.Idx → EReal) (j : Fin 1024) : broadcastInDim S1x1024 ![1] bcast_S1024_S1x1024_1 x (ix2 0 j) = x (ix1 j) := by
  pointwise
theorem lens_apply (x : S16.Idx → BitVec 32) (b : Fin 16) :
    k1_pay29 (F := Ideal) (broadcastInDim S16x128 ![0, 1] bcast_S16x1_S16x128_0_1 (broadcastInDim S16x1 ![0] bcast_S16_S16x1_0 x)) (ix2 b 0)
      = x (ix1 b) := by
  unfold k1_pay29
  pointwise

variable (m : (ℓ : Loc nD τ sig) → Buf (Elt Ideal) ℓ) (ρ : Dev nD → PrngReg)

/-- The decoder's parameters in the launch's argument arrays. -/
def par (c : Dev nD) : Par :=
  parOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The decoding kernel's first operand. -/
theorem in_proj (c : Dev nD) (t : Fin 512) (b : Fin 16) (j : Fin 320) :
    (V3 m ρ c main_v4 : S512x16x320.Idx → EReal) (ix3 t b j) = proj (par m c) b t.val j := by
  have hr : t.val * 16 + b.val < 8192 := by have := t.isLt; have := b.isLt; omega
  refine (congrFun (host1_proj (W2 m ρ c)) (ix3 t b j)).trans ((apart_apply _ t b j hr).trans ?_)
  refine (congrFun ((W2_arr m ρ c 3).trans (final0 (V1 m ρ) c)) (ix2 ⟨t.val * 16 + b.val, hr⟩ j)).trans ?_
  unfold projRows proj
  have e1 : ∀ d : Fin 512, (V1 m ρ c main_v1 : S8192x512.Idx → EReal) (ix2 ⟨t.val * 16 + b.val, hr⟩ d) = encAt (par m c) b t.val d := by
    intro d
    refine (congrFun (host0_rows (W0 m ρ c)) (ix2 ⟨t.val * 16 + b.val, hr⟩ d)).trans ((rows_apply _ t b d hr).trans ?_)
    have ht : Fin.ofNat 512 t.val = t := Fin.ext (Nat.mod_eq_of_lt t.isLt)
    show _ = (par m c).enc b (Fin.ofNat 512 t.val) d
    rw [ht]
    rfl
  have e2 : ∀ d : Fin 512, (V1 m ρ c main_arg6 : S512x320.Idx → EReal) (ix2 d j) = (par m c).wenc d j :=
    fun d => congrFun (W1_args m ρ c main_arg6 (by decide)) (ix2 d j)
  have e3 : (V1 m ρ c main_v2 : S1x320.Idx → EReal) (ix2 0 j) = (par m c).bj j :=
    (congrFun (host0_bias (W0 m ρ c)) (ix2 0 j)).trans (bias_apply _ j)
  exact congrArg₂ (fun x y : EReal => x + y)
    (Finset.sum_congr rfl fun d _ => congrArg₂ (fun x y : EReal => x * y) (e1 d) (e2 d)) e3

/-- The decoding kernel's other operands. -/
theorem in_holds (c : Dev nD) : Holds (par m c) ⟨k1_pay29 (F := Ideal) (V3 m ρ c main_v6), V3 m ρ c main_arg2, V3 m ρ c main_arg3,
    V3 m ρ c main_arg4, V3 m ρ c main_v7, V3 m ρ c main_arg7, V3 m ρ c main_arg9, V3 m ρ c main_v8⟩ where
  len b := by
    have e : V3 m ρ c main_v6 = _ := host1_lens (W2 m ρ c)
    rw [W2_args m ρ c main_arg1 (by decide)] at e
    rw [e]
    exact lens_apply _ b
  emb l k := congrFun (W3_args m ρ c main_arg2 (by decide)) (ix2 l k)
  wih k j := congrFun (W3_args m ρ c main_arg3 (by decide)) (ix2 k j)
  whh k j := congrFun (W3_args m ρ c main_arg4 (by decide)) (ix2 k j)
  bl j := by
    refine (congrFun (host1_bl (W2 m ρ c)) (ix2 0 j)).trans ((bl_apply _ j).trans ?_)
    exact congrFun (W2_args m ρ c main_arg5 (by decide)) (ix1 j)
  wp k j := congrFun (W3_args m ρ c main_arg7 (by decide)) (ix2 k j)
  wo j v := congrFun (W3_args m ρ c main_arg9 (by decide)) (ix2 j v)
  bo v := by
    refine (congrFun (host1_bo (W2 m ρ c)) (ix2 0 v)).trans ((bo_apply _ v).trans ?_)
    exact congrFun (W2_args m ρ c main_arg10 (by decide)) (ix1 v)

end Cert.KernelIdeal.Own
-- ==== Proof.KerState.lean ====
/- The decoder's four loops: the vectors that each carries hold every row's state before each of its trips, and the
   chunk's labels and scores so far. -/
module

public import proofs.«01_k».proof.Proof.KerStep
public import Idealize.ShloMosaic.Lib.VecWindow
public import Idealize.ShloMosaic.Lib.Pipeline.FrameBody

@[expose] public section

set_option maxRecDepth 16384

noncomputable section

namespace Cert.KernelIdeal.Own

open Idealize.ShloMosaic Idealize.ShloMosaic.TcCoe
open Cert.KernelIdeal Cert.KernelIdeal.Gen
open Decoder

/-- A load of a whole buffer's own sizes reads what the buffer holds. -/
theorem full_read {sp : Space} {s : Shape} {e : EltTy} {r : Memref sig .tc sp s e} (hr : r.IsWhole)
    (x : s.Idx → Elt Ideal e) {off : Fin s.rank → ℕ} (inb : ∀ a, off a + s.size a ≤ s.size a) :
    View.readAt (Elt Ideal) r.view (Rect.unit off s.size inb).toLoadRect (hr.unread x) = x := by
  rw [View.readAt_full, hr.read_unread]

/-- A load of one time's rows reads them off the whole array. -/
theorem time_read {r : Memref sig .tc .vmem S512x16x320 .f32} (hr : r.IsWhole) (x : Vec Ideal S512x16x320 .f32)
    {off : Fin 3 → ℕ} {t : ℕ} (h : off = ![t, 0, 0]) (inb : ∀ a, off a + S1x16x320.size a ≤ S512x16x320.size a)
    (ht : t < 512) (b : Fin 16) (j : Fin 320) :
    View.readAt (Elt Ideal) r.view (Rect.unit (s := S512x16x320) off S1x16x320.size inb).toLoadRect (hr.unread x) (ix3 0 b j)
      = x (ix3 ⟨t, ht⟩ b j) := by
  subst h
  rw [View.readAt_unit r.view _ inb rfl inb, hr.read_unread]
  unfold VecWindow.window
  congr 1
  funext a
  fin_cases a
  · exact Fin.ext (by show t + 1 * 0 = t; omega)
  · exact Fin.ext (by show 0 + 1 * b.val = b.val; omega)
  · exact Fin.ext (by show 0 + 1 * j.val = j.val; omega)

/-- A trip's number as a word. -/
theorem iv_word (k : ℕ) : Scf.iv 0#32 1#32 k = BitVec.ofNat 32 k := by
  simp [Scf.iv]

/-- A chunk's first time and a trip's number, added as words. -/
theorem add_word (o k : ℕ) : Scalar.addi (BitVec.ofNat 32 o) (BitVec.ofNat 32 k) = BitVec.ofNat 32 (o + k) :=
  (BitVec.ofNat_add o k).symm

set_option maxHeartbeats 2000000 in
/-- Loop 1, which begins at time 0. -/
theorem st1_carries {p : Par} {𝒱 : Variants} (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32)
    (x1 : Vec Ideal S512x16x320 .f32) (x3 : Vec Ideal S1024x320 .f32) (x4 : Vec Ideal S320x1280 .f32) (x5 : Vec Ideal S320x1280 .f32) (x6 : Vec Ideal S1x1280 .f32) (x7 : Vec Ideal S320x320 .f32) (x8 : Vec Ideal S320x1024 .f32) (x9 : Vec Ideal S1x1024 .f32) (init : Acc)
    (H : Holds p ⟨k1_pay29 v2, x3, x4, x5, x6, x7, x8, x9⟩) (hx : ∀ t b j, x1 (ix3 t b j) = proj p b t.val j)
    (C : Carries p 0 0 init) : ∀ k, k ≤ 128 →
    Carries p 0 k (st_k1_t1 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k) := by
  intro k
  induction k with
  | zero => exact fun _ => by rw [st_k1_t1_zero]; exact C
  | succ k ih =>
    intro hk
    have hk' : k < k1_t1_loop.trips := by
      have : k1_t1_loop.trips = 128 := by decide
      omega
    have hs := ih (by omega)
    have e := st_k1_t1_succ (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init ⟨k, hk'⟩
    rw [trip1_eq] at e
    rw [full_read harg3 x3, full_read harg4 x4, full_read harg5 x5, full_read harg6 x6, full_read harg7 x7,
      full_read harg8 x8, full_read harg9 x9] at e
    rw [iv_word, add_word] at e
    rw [e]
    clear e
    generalize st_k1_t1 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k = a at hs ⊢
    refine step_carries H hs (fun b j => ?_) (by omega) (by omega)
    rw [time_read harg1 x1 (t := 0 + k) ((k1_off1_eq ⟨k, hk'⟩).trans (congrArg (fun n : ℕ => (![n, 0, 0] : Fin 3 → ℕ)) (show k = 0 + k from by omega))) _ (by omega)]
    exact hx _ b j

set_option maxHeartbeats 2000000 in
/-- Loop 2, which begins at time 128. -/
theorem st2_carries {p : Par} {𝒱 : Variants} (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32)
    (x1 : Vec Ideal S512x16x320 .f32) (x3 : Vec Ideal S1024x320 .f32) (x4 : Vec Ideal S320x1280 .f32) (x5 : Vec Ideal S320x1280 .f32) (x6 : Vec Ideal S1x1280 .f32) (x7 : Vec Ideal S320x320 .f32) (x8 : Vec Ideal S320x1024 .f32) (x9 : Vec Ideal S1x1024 .f32) (init : Acc)
    (H : Holds p ⟨k1_pay29 v2, x3, x4, x5, x6, x7, x8, x9⟩) (hx : ∀ t b j, x1 (ix3 t b j) = proj p b t.val j)
    (C : Carries p 128 0 init) : ∀ k, k ≤ 128 →
    Carries p 128 k (st_k1_t2 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k) := by
  intro k
  induction k with
  | zero => exact fun _ => by rw [st_k1_t2_zero]; exact C
  | succ k ih =>
    intro hk
    have hk' : k < k1_t2_loop.trips := by
      have : k1_t2_loop.trips = 128 := by decide
      omega
    have hs := ih (by omega)
    have e := st_k1_t2_succ (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init ⟨k, hk'⟩
    rw [trip2_eq] at e
    rw [full_read harg3 x3, full_read harg4 x4, full_read harg5 x5, full_read harg6 x6, full_read harg7 x7,
      full_read harg8 x8, full_read harg9 x9] at e
    rw [iv_word, add_word] at e
    rw [e]
    clear e
    generalize st_k1_t2 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k = a at hs ⊢
    refine step_carries H hs (fun b j => ?_) (by omega) (by omega)
    rw [time_read harg1 x1 (t := 128 + k) ((k1_off2_eq ⟨k, hk'⟩).trans (congrArg (fun n : ℕ => (![n, 0, 0] : Fin 3 → ℕ)) (show k + 128 = 128 + k from by omega))) _ (by omega)]
    exact hx _ b j

set_option maxHeartbeats 2000000 in
/-- Loop 3, which begins at time 256. -/
theorem st3_carries {p : Par} {𝒱 : Variants} (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32)
    (x1 : Vec Ideal S512x16x320 .f32) (x3 : Vec Ideal S1024x320 .f32) (x4 : Vec Ideal S320x1280 .f32) (x5 : Vec Ideal S320x1280 .f32) (x6 : Vec Ideal S1x1280 .f32) (x7 : Vec Ideal S320x320 .f32) (x8 : Vec Ideal S320x1024 .f32) (x9 : Vec Ideal S1x1024 .f32) (init : Acc)
    (H : Holds p ⟨k1_pay29 v2, x3, x4, x5, x6, x7, x8, x9⟩) (hx : ∀ t b j, x1 (ix3 t b j) = proj p b t.val j)
    (C : Carries p 256 0 init) : ∀ k, k ≤ 128 →
    Carries p 256 k (st_k1_t3 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k) := by
  intro k
  induction k with
  | zero => exact fun _ => by rw [st_k1_t3_zero]; exact C
  | succ k ih =>
    intro hk
    have hk' : k < k1_t3_loop.trips := by
      have : k1_t3_loop.trips = 128 := by decide
      omega
    have hs := ih (by omega)
    have e := st_k1_t3_succ (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init ⟨k, hk'⟩
    rw [trip3_eq] at e
    rw [full_read harg3 x3, full_read harg4 x4, full_read harg5 x5, full_read harg6 x6, full_read harg7 x7,
      full_read harg8 x8, full_read harg9 x9] at e
    rw [iv_word, add_word] at e
    rw [e]
    clear e
    generalize st_k1_t3 (F := Ideal) 𝒱 c bd i arg1 harg1 arg2 harg2 arg3 harg3 arg4 harg4 arg5 harg5 arg6 harg6 arg7 harg7 arg8 harg8 arg9 harg9 arg10 harg10 arg11 harg11 lanes v2 (harg1.unread x1) (harg3.unread x3) (harg4.unread x4) (harg5.unread x5) (harg6.unread x6) (harg7.unread x7) (harg8.unread x8) (harg9.unread x9) init k = a at hs ⊢
    refine step_carries H hs (fun b j => ?_) (by omega) (by omega)
    rw [time_read harg1 x1 (t := 256 + k) ((k1_off3_eq ⟨k, hk'⟩).trans (congrArg (fun n : ℕ => (![n, 0, 0] : Fin 3 → ℕ)) (show k + 256 = 256 + k from by omega))) _ (by omega)]
    exact hx _ b j

set_option maxHeartbeats 2000000 in
/-- Loop 4, which begins at time 384. -/
theorem st4_carries {p : Par} {𝒱 : Variants} (c : Dev nD) (bd : Option 𝒱.V) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole) (v2 : Vec Ideal S16x128 .i32)
    (x1 : Vec Ideal S512x16x320 .f32) (x3 : Vec Ideal S1024x320 .f32) (x4 : Vec Ideal S320x1280 .f32) (x5 : Vec Ideal S320x1280 .f32) (x6 : Vec Ideal S1x1280 .f32) (x7 : Vec Ideal S320x320 .f32) (x8 : Vec Ideal S320x1024 .f32) (x9 : Vec Ideal S1x1024 .f32) (init : Acc)
    (H : Holds p ⟨k1_pay29 v2, x3, x4, x5, x6, x7, x8, x9⟩) (hx : ∀ t b j, x1 (ix3 t b j) = proj p b t.val j)
    (C : Carries p 384 0 init) : ∀ k, k ≤ 128 →
    Carries p 384 k (st_k1_t4 (F := Ideal) 𝒱 c bd i arg1 harg1 arg2 harg2 arg3 harg3 arg4 harg4 arg5 harg5 arg6 harg6 arg7 harg7 arg8 harg8 arg9 harg9 arg10 harg10 arg11 harg11 lanes cols (k1_pay29 v2) (harg1.unread x1) (harg3.unread x3) (harg4.unread x4) (harg5.unread x5) (harg6.unread x6) (harg7.unread x7) (harg8.unread x8) (harg9.unread x9) init k) := by
  intro k
  induction k with
  | zero => exact fun _ => by rw [st_k1_t4_zero]; exact C
  | succ k ih =>
    intro hk
    have hk' : k < k1_t4_loop.trips := by
      have : k1_t4_loop.trips = 128 := by decide
      omega
    have hs := ih (by omega)
    have e := st_k1_t4_succ (F := Ideal) 𝒱 c bd i arg1 harg1 arg2 harg2 arg3 harg3 arg4 harg4 arg5 harg5 arg6 harg6 arg7 harg7 arg8 harg8 arg9 harg9 arg10 harg10 arg11 harg11 lanes cols (k1_pay29 v2) (harg1.unread x1) (harg3.unread x3) (harg4.unread x4) (harg5.unread x5) (harg6.unread x6) (harg7.unread x7) (harg8.unread x8) (harg9.unread x9) init ⟨k, hk'⟩
    rw [trip4_eq] at e
    rw [full_read harg3 x3, full_read harg4 x4, full_read harg5 x5, full_read harg6 x6, full_read harg7 x7,
      full_read harg8 x8, full_read harg9 x9] at e
    rw [iv_word, add_word] at e
    rw [e]
    clear e
    generalize st_k1_t4 (F := Ideal) 𝒱 c bd i arg1 harg1 arg2 harg2 arg3 harg3 arg4 harg4 arg5 harg5 arg6 harg6 arg7 harg7 arg8 harg8 arg9 harg9 arg10 harg10 arg11 harg11 lanes cols (k1_pay29 v2) (harg1.unread x1) (harg3.unread x3) (harg4.unread x4) (harg5.unread x5) (harg6.unread x6) (harg7.unread x7) (harg8.unread x8) (harg9.unread x9) init k = a at hs ⊢
    refine step_carries H hs (fun b j => ?_) (by omega) (by omega)
    rw [time_read harg1 x1 (t := 384 + k) ((k1_off4_eq ⟨k, hk'⟩).trans (congrArg (fun n : ℕ => (![n, 0, 0] : Fin 3 → ℕ)) (show k + 384 = 384 + k from by omega))) _ (by omega)]
    exact hx _ b j

end Cert.KernelIdeal.Own
-- ==== Proof.KerPieces.lean ====
module

public import proofs.«01_k».proof.Proof.KerState
public import proofs.«01_k».proof.Proof.Gen.KernelIdeal.Frame
public import Idealize.ShloMosaic.Lib.WritesUnit
public import Idealize.ShloMosaic.Lib.VecWindow
public import Idealize.ShloMosaic.Lib.Pipeline.FrameBody

/-!
# The decoding kernel's two output blocks

The body runs four loops of 128 steps one after another and stores each loop's labels and scores in its own 128 columns.
Each loop begins with the state the loop before it left and with fresh chunk vectors, so after the fourth the two blocks
hold the whole decoding.
-/

@[expose] public section

set_option maxRecDepth 16384

noncomputable section

namespace Cert.KernelIdeal.Own

open Idealize.ShloMosaic Idealize.ShloMosaic.TcCoe
open Cert.KernelIdeal Cert.KernelIdeal.Gen
open Decoder

variable (c : Dev nD) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole)
    (x0 : Vec Ideal S512x16x320 .f32) (x1 : Vec Ideal S16x128 .i32) (x2 : Vec Ideal S1024x320 .f32) (x3 : Vec Ideal S320x1280 .f32) (x4 : Vec Ideal S320x1280 .f32) (x5 : Vec Ideal S1x1280 .f32) (x6 : Vec Ideal S320x320 .f32) (x7 : Vec Ideal S320x1024 .f32) (x8 : Vec Ideal S1x1024 .f32)

/-- The lengths the body loads. -/
def lensIn (arg2 : Memref sig .tc .vmem S16x128 .i32) (harg2 : arg2.IsWhole) (x1 : Vec Ideal S16x128 .i32) : Vec Ideal S16x128 .i32 :=
  View.readAt (Elt Ideal) arg2.view (Rect.unit ![0, 0] S16x128.size inb_S16x128_S16x128_0_0).toLoadRect (harg2.unread x1)

theorem trips_eq : (Scf.trips (0#32) (Scalar.addi 0#32 128#32) 1#32) = 128 := by decide

/-- What loop 1 leaves. -/
def end1 : Acc :=
  st_k1_t1 (F := Ideal) Variants.none c none i arg1 harg1 arg2 harg2 arg3 harg3 arg4 harg4 arg5 harg5 arg6 harg6 arg7 harg7 arg8 harg8 arg9 harg9 arg10 harg10 arg11 harg11 lanes (lensIn arg2 harg2 x1) (harg1.unread x0) (harg3.unread x2) (harg4.unread x3) (harg5.unread x4) (harg6.unread x5) (harg7.unread x6) (harg8.unread x7) (harg9.unread x8)
    (k1_pay30, k1_pay31, k1_pay32, k1_pay33, k1_pay34) (Scf.trips (0#32) (Scalar.addi 0#32 128#32) 1#32)

/-- What loop 2 leaves. -/
def end2 : Acc :=
  st_k1_t2 (F := Ideal) Variants.none c none i arg1 harg1 arg2 harg2 arg3 harg3 arg4 harg4 arg5 harg5 arg6 harg6 arg7 harg7 arg8 harg8 arg9 harg9 arg10 harg10 arg11 harg11 lanes (lensIn arg2 harg2 x1) (harg1.unread x0) (harg3.unread x2) (harg4.unread x3) (harg5.unread x4) (harg6.unread x5) (harg7.unread x6) (harg8.unread x7) (harg9.unread x8)
    ((end1 c i arg1 harg1 arg2 harg2 arg3 harg3 arg4 harg4 arg5 harg5 arg6 harg6 arg7 harg7 arg8 harg8 arg9 harg9 arg10 harg10 arg11 harg11 x0 x1 x2 x3 x4 x5 x6 x7 x8).1, (end1 c i arg1 harg1 arg2 harg2 arg3 harg3 arg4 harg4 arg5 harg5 arg6 harg6 arg7 harg7 arg8 harg8 arg9 harg9 arg10 harg10 arg11 harg11 x0 x1 x2 x3 x4 x5 x6 x7 x8).2.1, (end1 c i arg1 harg1 arg2 harg2 arg3 harg3 arg4 harg4 arg5 harg5 arg6 harg6 arg7 harg7 arg8 harg8 arg9 harg9 arg10 harg10 arg11 harg11 x0 x1 x2 x3 x4 x5 x6 x7 x8).2.2.1, k1_pay45, k1_pay46) (Scf.trips (0#32) (Scalar.addi 0#32 128#32) 1#32)

/-- What loop 3 leaves. -/
def end3 : Acc :=
  st_k1_t3 (F := Ideal) Variants.none c none i arg1 harg1 arg2 harg2 arg3 harg3 arg4 harg4 arg5 harg5 arg6 harg6 arg7 harg7 arg8 harg8 arg9 harg9 arg10 harg10 arg11 harg11 lanes (lensIn arg2 harg2 x1) (harg1.unread x0) (harg3.unread x2) (harg4.unread x3) (harg5.unread x4) (harg6.unread x5) (harg7.unread x6) (harg8.unread x7) (harg9.unread x8)
    ((end2 c i arg1 harg1 arg2 harg2 arg3 harg3 arg4 harg4 arg5 harg5 arg6 harg6 arg7 harg7 arg8 harg8 arg9 harg9 arg10 harg10 arg11 harg11 x0 x1 x2 x3 x4 x5 x6 x7 x8).1, (end2 c i arg1 harg1 arg2 harg2 arg3 harg3 arg4 harg4 arg5 harg5 arg6 harg6 arg7 harg7 arg8 harg8 arg9 harg9 arg10 harg10 arg11 harg11 x0 x1 x2 x3 x4 x5 x6 x7 x8).2.1, (end2 c i arg1 harg1 arg2 harg2 arg3 harg3 arg4 harg4 arg5 harg5 arg6 harg6 arg7 harg7 arg8 harg8 arg9 harg9 arg10 harg10 arg11 harg11 x0 x1 x2 x3 x4 x5 x6 x7 x8).2.2.1, k1_pay57, k1_pay58) (Scf.trips (0#32) (Scalar.addi 0#32 128#32) 1#32)

/-- What loop 4 leaves. -/
def end4 : Acc :=
  st_k1_t4 (F := Ideal) Variants.none c none i arg1 harg1 arg2 harg2 arg3 harg3 arg4 harg4 arg5 harg5 arg6 harg6 arg7 harg7 arg8 harg8 arg9 harg9 arg10 harg10 arg11 harg11 lanes cols (k1_pay29 (lensIn arg2 harg2 x1)) (harg1.unread x0) (harg3.unread x2) (harg4.unread x3) (harg5.unread x4) (harg6.unread x5) (harg7.unread x6) (harg8.unread x7) (harg9.unread x8)
    ((end3 c i arg1 harg1 arg2 harg2 arg3 harg3 arg4 harg4 arg5 harg5 arg6 harg6 arg7 harg7 arg8 harg8 arg9 harg9 arg10 harg10 arg11 harg11 x0 x1 x2 x3 x4 x5 x6 x7 x8).1, (end3 c i arg1 harg1 arg2 harg2 arg3 harg3 arg4 harg4 arg5 harg5 arg6 harg6 arg7 harg7 arg8 harg8 arg9 harg9 arg10 harg10 arg11 harg11 x0 x1 x2 x3 x4 x5 x6 x7 x8).2.1, (end3 c i arg1 harg1 arg2 harg2 arg3 harg3 arg4 harg4 arg5 harg5 arg6 harg6 arg7 harg7 arg8 harg8 arg9 harg9 arg10 harg10 arg11 harg11 x0 x1 x2 x3 x4 x5 x6 x7 x8).2.2.1, k1_pay1, k1_pay2) (Scf.trips (0#32) (Scalar.addi 0#32 128#32) 1#32)

/-- The stores of the labels, last first. -/
theorem pieces_labels : (kernelRun1_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1 =
    [⟨Rect.unit (s := S16x512) ![0, 384] S16x128.size inb_S16x512_S16x128_0_384, (end4 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1⟩,
      ⟨Rect.unit (s := S16x512) ![0, 256] S16x128.size inb_S16x512_S16x128_0_256, (end3 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1⟩,
      ⟨Rect.unit (s := S16x512) ![0, 128] S16x128.size inb_S16x512_S16x128_0_128, (end2 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1⟩,
      ⟨Rect.unit (s := S16x512) ![0, 0] S16x128.size inb_S16x512_S16x128_0_0, (end1 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1⟩] := by
  unfold kernelRun1_A
  rfl

/-- The stores of the scores, last first. -/
theorem pieces_scores : (kernelRun1_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).2.1 =
    [⟨Rect.unit (s := S16x512) ![0, 384] S16x128.size inb_S16x512_S16x128_0_384, (end4 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2⟩,
      ⟨Rect.unit (s := S16x512) ![0, 256] S16x128.size inb_S16x512_S16x128_0_256, (end3 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2⟩,
      ⟨Rect.unit (s := S16x512) ![0, 128] S16x128.size inb_S16x512_S16x128_0_128, (end2 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2⟩,
      ⟨Rect.unit (s := S16x512) ![0, 0] S16x128.size inb_S16x512_S16x128_0_0, (end1 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2⟩] := by
  unfold kernelRun1_A
  rfl

end Cert.KernelIdeal.Own
-- ==== Proof.KerBody.lean ====
module

public import proofs.«01_k».proof.Proof.KerPieces
public import Idealize.ShloMosaic.Lib.WritesUnit
public import Idealize.ShloMosaic.Lib.Pipeline.FrameBody

/-!
# The decoding kernel's blocks hold the decoding

The four loops' carried vectors, one after another, and the two blocks' elements off the four stores.
-/

@[expose] public section

set_option maxRecDepth 16384

noncomputable section

namespace Cert.KernelIdeal.Own

open Idealize.ShloMosaic Idealize.ShloMosaic.TcCoe
open Cert.KernelIdeal Cert.KernelIdeal.Gen
open Decoder

/-- Four blocks of 128 columns stored side by side, read at an element. -/
theorem read_chunks {e : EltTy} {κ : Kind} {sp : Space} (v : View sig κ sp S16x512 e) (f : v.ty.Contents (Elt Ideal))
    (w4 w3 w2 w1 : S16x128.Idx → Elt Ideal e) (G : Fin 16 → ℕ → Elt Ideal e)
    (h4 : ∀ b (x : Fin 128), w4 (ix2 b x) = G b (384 + x.val)) (h3 : ∀ b (x : Fin 128), w3 (ix2 b x) = G b (256 + x.val))
    (h2 : ∀ b (x : Fin 128), w2 (ix2 b x) = G b (128 + x.val)) (h1 : ∀ b (x : Fin 128), w1 (ix2 b x) = G b (0 + x.val))
    (b : Fin 16) (t : Fin 512) :
    v.read (Elt Ideal) (v.writes (Elt Ideal) f
      [⟨Rect.unit (s := S16x512) ![0, 384] S16x128.size inb_S16x512_S16x128_0_384, w4⟩,
       ⟨Rect.unit (s := S16x512) ![0, 256] S16x128.size inb_S16x512_S16x128_0_256, w3⟩,
       ⟨Rect.unit (s := S16x512) ![0, 128] S16x128.size inb_S16x512_S16x128_0_128, w2⟩,
       ⟨Rect.unit (s := S16x512) ![0, 0] S16x128.size inb_S16x512_S16x128_0_0, w1⟩]) (ix2 b t) = G b t.val := by
  have ht := t.isLt
  have hit : ∀ {o : ℕ} (ho : o ≤ t.val) (hu : t.val < o + 128) (a : Fin 2),
      ((ix2 b t : S16x512.Idx) a).val = (![0, o] : Fin 2 → ℕ) a + ((ix2 b ⟨t.val - o, by omega⟩ : S16x128.Idx) a).val := by
    intro o ho hu a
    fin_cases a
    · exact (Nat.zero_add _).symm
    · exact (Nat.add_sub_cancel' ho).symm
  by_cases c4 : 384 ≤ t.val
  · rw [View.read_writes_cons_unit_of_mem (size := S16x128.size) v f inb_S16x512_S16x128_0_384 w4 _ (ix2 b t) (ix2 b ⟨t.val - 384, by omega⟩) rfl (hit c4 (by omega)), h4]
    exact congrArg (G b) (Nat.add_sub_cancel' c4)
  rw [View.read_writes_cons_unit_of_not_mem (size := S16x128.size) v f inb_S16x512_S16x128_0_384 w4 _ (ix2 b t) rfl 1 (.inl (by show t.val < 384; omega))]
  by_cases c3 : 256 ≤ t.val
  · rw [View.read_writes_cons_unit_of_mem (size := S16x128.size) v f inb_S16x512_S16x128_0_256 w3 _ (ix2 b t) (ix2 b ⟨t.val - 256, by omega⟩) rfl (hit c3 (by omega)), h3]
    exact congrArg (G b) (Nat.add_sub_cancel' c3)
  rw [View.read_writes_cons_unit_of_not_mem (size := S16x128.size) v f inb_S16x512_S16x128_0_256 w3 _ (ix2 b t) rfl 1 (.inl (by show t.val < 256; omega))]
  by_cases c2 : 128 ≤ t.val
  · rw [View.read_writes_cons_unit_of_mem (size := S16x128.size) v f inb_S16x512_S16x128_0_128 w2 _ (ix2 b t) (ix2 b ⟨t.val - 128, by omega⟩) rfl (hit c2 (by omega)), h2]
    exact congrArg (G b) (Nat.add_sub_cancel' c2)
  rw [View.read_writes_cons_unit_of_not_mem (size := S16x128.size) v f inb_S16x512_S16x128_0_128 w2 _ (ix2 b t) rfl 1 (.inl (by show t.val < 128; omega))]
  rw [View.read_writes_cons_unit_of_mem (size := S16x128.size) v f inb_S16x512_S16x128_0_0 w1 _ (ix2 b t) (ix2 b ⟨t.val - 0, by omega⟩) rfl (hit (Nat.zero_le _) (by omega)), h1]
  exact congrArg (G b) (Nat.add_sub_cancel' (Nat.zero_le _))

/-- The vectors before the first step. -/
theorem first_carries (p : Par) (L : IVec S16x128 32) (S : FVec Ideal S16x128 .f32) :
    Carries p 0 0 (k1_pay30, k1_pay31, k1_pay32, L, S) where
  h _ _ := Ideal.ofBits_zero_f32
  c _ _ := Ideal.ofBits_zero_f32
  l _ := rfl
  labs _ _ hx := absurd hx (Nat.not_lt_zero _)
  scs _ _ hx := absurd hx (Nat.not_lt_zero _)

/-- The next chunk begins with the state the last one left. -/
theorem fresh {p : Par} {o : ℕ} {a : Acc} (C : Carries p o 128 a) (L : IVec S16x128 32) (S : FVec Ideal S16x128 .f32) :
    Carries p (o + 128) 0 (a.1, a.2.1, a.2.2.1, L, S) where
  h := C.h
  c := C.c
  l := C.l
  labs _ _ hx := absurd hx (Nat.not_lt_zero _)
  scs _ _ hx := absurd hx (Nat.not_lt_zero _)

section
variable {p : Par} (c : Dev nD) (i : grid1.Coords) (arg1 : Memref sig .tc .vmem S512x16x320 .f32) (harg1 : arg1.IsWhole) (arg2 : Memref sig .tc .vmem S16x128 .i32) (harg2 : arg2.IsWhole) (arg3 : Memref sig .tc .vmem S1024x320 .f32) (harg3 : arg3.IsWhole) (arg4 : Memref sig .tc .vmem S320x1280 .f32) (harg4 : arg4.IsWhole) (arg5 : Memref sig .tc .vmem S320x1280 .f32) (harg5 : arg5.IsWhole) (arg6 : Memref sig .tc .vmem S1x1280 .f32) (harg6 : arg6.IsWhole) (arg7 : Memref sig .tc .vmem S320x320 .f32) (harg7 : arg7.IsWhole) (arg8 : Memref sig .tc .vmem S320x1024 .f32) (harg8 : arg8.IsWhole) (arg9 : Memref sig .tc .vmem S1x1024 .f32) (harg9 : arg9.IsWhole) (arg10 : Memref sig .tc .vmem S16x512 .i32) (harg10 : arg10.IsWhole) (arg11 : Memref sig .tc .vmem S16x512 .f32) (harg11 : arg11.IsWhole)
    (x0 : Vec Ideal S512x16x320 .f32) (x1 : Vec Ideal S16x128 .i32) (x2 : Vec Ideal S1024x320 .f32) (x3 : Vec Ideal S320x1280 .f32) (x4 : Vec Ideal S320x1280 .f32) (x5 : Vec Ideal S1x1280 .f32) (x6 : Vec Ideal S320x320 .f32) (x7 : Vec Ideal S320x1024 .f32) (x8 : Vec Ideal S1x1024 .f32)
  (H : Holds p ⟨k1_pay29 (lensIn arg2 harg2 x1), x2, x3, x4, x5, x6, x7, x8⟩)
  (hx : ∀ t b j, x0 (ix3 t b j) = proj p b t.val j)
include H hx

theorem end1_carries : Carries p 0 128 (end1 c i arg1 harg1 arg2 harg2 arg3 harg3 arg4 harg4 arg5 harg5 arg6 harg6 arg7 harg7 arg8 harg8 arg9 harg9 arg10 harg10 arg11 harg11 x0 x1 x2 x3 x4 x5 x6 x7 x8) := by
  unfold end1
  rw [trips_eq]
  exact st1_carries c none i arg1 harg1 arg2 harg2 arg3 harg3 arg4 harg4 arg5 harg5 arg6 harg6 arg7 harg7 arg8 harg8 arg9 harg9 arg10 harg10 arg11 harg11 (lensIn arg2 harg2 x1) x0 x2 x3 x4 x5 x6 x7 x8 _ H hx ((first_carries p _ _)) 128 (le_refl _)

theorem end2_carries : Carries p 128 128 (end2 c i arg1 harg1 arg2 harg2 arg3 harg3 arg4 harg4 arg5 harg5 arg6 harg6 arg7 harg7 arg8 harg8 arg9 harg9 arg10 harg10 arg11 harg11 x0 x1 x2 x3 x4 x5 x6 x7 x8) := by
  unfold end2
  rw [trips_eq]
  exact st2_carries c none i arg1 harg1 arg2 harg2 arg3 harg3 arg4 harg4 arg5 harg5 arg6 harg6 arg7 harg7 arg8 harg8 arg9 harg9 arg10 harg10 arg11 harg11 (lensIn arg2 harg2 x1) x0 x2 x3 x4 x5 x6 x7 x8 _ H hx ((fresh (end1_carries c i arg1 harg1 arg2 harg2 arg3 harg3 arg4 harg4 arg5 harg5 arg6 harg6 arg7 harg7 arg8 harg8 arg9 harg9 arg10 harg10 arg11 harg11 x0 x1 x2 x3 x4 x5 x6 x7 x8 H hx) _ _)) 128 (le_refl _)

theorem end3_carries : Carries p 256 128 (end3 c i arg1 harg1 arg2 harg2 arg3 harg3 arg4 harg4 arg5 harg5 arg6 harg6 arg7 harg7 arg8 harg8 arg9 harg9 arg10 harg10 arg11 harg11 x0 x1 x2 x3 x4 x5 x6 x7 x8) := by
  unfold end3
  rw [trips_eq]
  exact st3_carries c none i arg1 harg1 arg2 harg2 arg3 harg3 arg4 harg4 arg5 harg5 arg6 harg6 arg7 harg7 arg8 harg8 arg9 harg9 arg10 harg10 arg11 harg11 (lensIn arg2 harg2 x1) x0 x2 x3 x4 x5 x6 x7 x8 _ H hx ((fresh (end2_carries c i arg1 harg1 arg2 harg2 arg3 harg3 arg4 harg4 arg5 harg5 arg6 harg6 arg7 harg7 arg8 harg8 arg9 harg9 arg10 harg10 arg11 harg11 x0 x1 x2 x3 x4 x5 x6 x7 x8 H hx) _ _)) 128 (le_refl _)

theorem end4_carries : Carries p 384 128 (end4 c i arg1 harg1 arg2 harg2 arg3 harg3 arg4 harg4 arg5 harg5 arg6 harg6 arg7 harg7 arg8 harg8 arg9 harg9 arg10 harg10 arg11 harg11 x0 x1 x2 x3 x4 x5 x6 x7 x8) := by
  unfold end4
  rw [trips_eq]
  exact st4_carries c none i arg1 harg1 arg2 harg2 arg3 harg3 arg4 harg4 arg5 harg5 arg6 harg6 arg7 harg7 arg8 harg8 arg9 harg9 arg10 harg10 arg11 harg11 (lensIn arg2 harg2 x1) x0 x2 x3 x4 x5 x6 x7 x8 _ H hx ((fresh (end3_carries c i arg1 harg1 arg2 harg2 arg3 harg3 arg4 harg4 arg5 harg5 arg6 harg6 arg7 harg7 arg8 harg8 arg9 harg9 arg10 harg10 arg11 harg11 x0 x1 x2 x3 x4 x5 x6 x7 x8 H hx) _ _)) 128 (le_refl _)

/-- The block of the labels. -/
theorem labels_block (b : Fin 16) (t : Fin 512) :
    out1_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 b t) = outLab p b t.val := by
  unfold out1_A_9
  rw [pieces_labels]
  exact read_chunks (e := .i32) VO1_9 VO1_9.junk (end4 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1 (end3 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1 (end2 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1 (end1 c i arg1 harg1 arg2 harg2 arg3 harg3 arg4 harg4 arg5 harg5 arg6 harg6 arg7 harg7 arg8 harg8 arg9 harg9 arg10 harg10 arg11 harg11 x0 x1 x2 x3 x4 x5 x6 x7 x8).2.2.2.1 (outLab p)
    (fun b x => (end4_carries c i arg1 harg1 arg2 harg2 arg3 harg3 arg4 harg4 arg5 harg5 arg6 harg6 arg7 harg7 arg8 harg8 arg9 harg9 arg10 harg10 arg11 harg11 x0 x1 x2 x3 x4 x5 x6 x7 x8 H hx).labs b x x.isLt) (fun b x => (end3_carries c i arg1 harg1 arg2 harg2 arg3 harg3 arg4 harg4 arg5 harg5 arg6 harg6 arg7 harg7 arg8 harg8 arg9 harg9 arg10 harg10 arg11 harg11 x0 x1 x2 x3 x4 x5 x6 x7 x8 H hx).labs b x x.isLt) (fun b x => (end2_carries c i arg1 harg1 arg2 harg2 arg3 harg3 arg4 harg4 arg5 harg5 arg6 harg6 arg7 harg7 arg8 harg8 arg9 harg9 arg10 harg10 arg11 harg11 x0 x1 x2 x3 x4 x5 x6 x7 x8 H hx).labs b x x.isLt) (fun b x => (end1_carries c i arg1 harg1 arg2 harg2 arg3 harg3 arg4 harg4 arg5 harg5 arg6 harg6 arg7 harg7 arg8 harg8 arg9 harg9 arg10 harg10 arg11 harg11 x0 x1 x2 x3 x4 x5 x6 x7 x8 H hx).labs b x x.isLt) b t

/-- The block of the scores. -/
theorem scores_block (b : Fin 16) (t : Fin 512) :
    out1_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 b t) = outScore p b t.val := by
  unfold out1_A_10
  rw [pieces_scores]
  exact read_chunks (e := .f32) VO1_10 VO1_10.junk (end4 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2 (end3 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2 (end2 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2 (end1 c i arg1 harg1 arg2 harg2 arg3 harg3 arg4 harg4 arg5 harg5 arg6 harg6 arg7 harg7 arg8 harg8 arg9 harg9 arg10 harg10 arg11 harg11 x0 x1 x2 x3 x4 x5 x6 x7 x8).2.2.2.2 (outScore p)
    (fun b x => (end4_carries c i arg1 harg1 arg2 harg2 arg3 harg3 arg4 harg4 arg5 harg5 arg6 harg6 arg7 harg7 arg8 harg8 arg9 harg9 arg10 harg10 arg11 harg11 x0 x1 x2 x3 x4 x5 x6 x7 x8 H hx).scs b x x.isLt) (fun b x => (end3_carries c i arg1 harg1 arg2 harg2 arg3 harg3 arg4 harg4 arg5 harg5 arg6 harg6 arg7 harg7 arg8 harg8 arg9 harg9 arg10 harg10 arg11 harg11 x0 x1 x2 x3 x4 x5 x6 x7 x8 H hx).scs b x x.isLt) (fun b x => (end2_carries c i arg1 harg1 arg2 harg2 arg3 harg3 arg4 harg4 arg5 harg5 arg6 harg6 arg7 harg7 arg8 harg8 arg9 harg9 arg10 harg10 arg11 harg11 x0 x1 x2 x3 x4 x5 x6 x7 x8 H hx).scs b x x.isLt) (fun b x => (end1_carries c i arg1 harg1 arg2 harg2 arg3 harg3 arg4 harg4 arg5 harg5 arg6 harg6 arg7 harg7 arg8 harg8 arg9 harg9 arg10 harg10 arg11 harg11 x0 x1 x2 x3 x4 x5 x6 x7 x8 H hx).scs b x x.isLt) b t

end

end Cert.KernelIdeal.Own
-- ==== Proof.KerOut.lean ====
/-
  The decoding kernel's two arrays: its one grid point's blocks are the whole arrays, so they end holding the labels and
  the scores of the decoding whose parameters the operands hold.
-/
module

public import proofs.«01_k».proof.Proof.KerBody
public import Idealize.ShloMosaic.Lib.Pipeline.Value

@[expose] public section

set_option maxRecDepth 16384

noncomputable section

namespace Cert.KernelIdeal.Own

open Idealize.ShloMosaic Idealize.ShloMosaic.TcCoe Idealize.SL.Sem
open Cert.KernelIdeal Cert.KernelIdeal.Gen
open Idealize.ShloMosaic.Pipeline (Dat)
open Decoder

variable (V : (c : Dev nD) → (b : Ref sig .tc) → Buf (Elt Ideal) ((c : Thread nD τ).loc b))

theorem first1_0 : ∀ (t : Fin cfg1.N) (a : Fin 3), win1_0.index t a = 0 := by decide +kernel
theorem first1_1 : ∀ (t : Fin cfg1.N) (a : Fin 2), win1_1.index t a = 0 := by decide +kernel
theorem first1_2 : ∀ (t : Fin cfg1.N) (a : Fin 2), win1_2.index t a = 0 := by decide +kernel
theorem first1_3 : ∀ (t : Fin cfg1.N) (a : Fin 2), win1_3.index t a = 0 := by decide +kernel
theorem first1_4 : ∀ (t : Fin cfg1.N) (a : Fin 2), win1_4.index t a = 0 := by decide +kernel
theorem first1_5 : ∀ (t : Fin cfg1.N) (a : Fin 2), win1_5.index t a = 0 := by decide +kernel
theorem first1_6 : ∀ (t : Fin cfg1.N) (a : Fin 2), win1_6.index t a = 0 := by decide +kernel
theorem first1_7 : ∀ (t : Fin cfg1.N) (a : Fin 2), win1_7.index t a = 0 := by decide +kernel
theorem first1_8 : ∀ (t : Fin cfg1.N) (a : Fin 2), win1_8.index t a = 0 := by decide +kernel
theorem first1_9 : ∀ (t : Fin cfg1.N) (a : Fin 2), win1_9.index t a = 0 := by decide +kernel
theorem first1_10 : ∀ (t : Fin cfg1.N) (a : Fin 2), win1_10.index t a = 0 := by decide +kernel

theorem whole1_0 (c : Dev nD) (t : Fin cfg1.N) : iblk1 V c 0 t = V c main_v4 := by
  refine funext fun y => congrArg (V c main_v4) (funext fun a => Fin.ext ?_)
  show win1_0.index t a * win1_0.size a + 1 * (y a).val = (y a).val
  rw [first1_0 t a]
  omega

theorem whole1_1 (c : Dev nD) (t : Fin cfg1.N) : iblk1 V c 1 t = V c main_v6 := by
  refine funext fun y => congrArg (V c main_v6) (funext fun a => Fin.ext ?_)
  show win1_1.index t a * win1_1.size a + 1 * (y a).val = (y a).val
  rw [first1_1 t a]
  omega

theorem whole1_2 (c : Dev nD) (t : Fin cfg1.N) : iblk1 V c 2 t = V c main_arg2 := by
  refine funext fun y => congrArg (V c main_arg2) (funext fun a => Fin.ext ?_)
  show win1_2.index t a * win1_2.size a + 1 * (y a).val = (y a).val
  rw [first1_2 t a]
  omega

theorem whole1_3 (c : Dev nD) (t : Fin cfg1.N) : iblk1 V c 3 t = V c main_arg3 := by
  refine funext fun y => congrArg (V c main_arg3) (funext fun a => Fin.ext ?_)
  show win1_3.index t a * win1_3.size a + 1 * (y a).val = (y a).val
  rw [first1_3 t a]
  omega

theorem whole1_4 (c : Dev nD) (t : Fin cfg1.N) : iblk1 V c 4 t = V c main_arg4 := by
  refine funext fun y => congrArg (V c main_arg4) (funext fun a => Fin.ext ?_)
  show win1_4.index t a * win1_4.size a + 1 * (y a).val = (y a).val
  rw [first1_4 t a]
  omega

theorem whole1_5 (c : Dev nD) (t : Fin cfg1.N) : iblk1 V c 5 t = V c main_v7 := by
  refine funext fun y => congrArg (V c main_v7) (funext fun a => Fin.ext ?_)
  show win1_5.index t a * win1_5.size a + 1 * (y a).val = (y a).val
  rw [first1_5 t a]
  omega

theorem whole1_6 (c : Dev nD) (t : Fin cfg1.N) : iblk1 V c 6 t = V c main_arg7 := by
  refine funext fun y => congrArg (V c main_arg7) (funext fun a => Fin.ext ?_)
  show win1_6.index t a * win1_6.size a + 1 * (y a).val = (y a).val
  rw [first1_6 t a]
  omega

theorem whole1_7 (c : Dev nD) (t : Fin cfg1.N) : iblk1 V c 7 t = V c main_arg9 := by
  refine funext fun y => congrArg (V c main_arg9) (funext fun a => Fin.ext ?_)
  show win1_7.index t a * win1_7.size a + 1 * (y a).val = (y a).val
  rw [first1_7 t a]
  omega

theorem whole1_8 (c : Dev nD) (t : Fin cfg1.N) : iblk1 V c 8 t = V c main_v8 := by
  refine funext fun y => congrArg (V c main_v8) (funext fun a => Fin.ext ?_)
  show win1_8.index t a * win1_8.size a + 1 * (y a).val = (y a).val
  rw [first1_8 t a]
  omega

/-- The labels of all rows and steps. -/
def labels (p : Par) : S16x512.Idx → BitVec 32 := fun i => outLab p (i 0) (i 1).val

/-- The scores of all rows and steps. -/
def scores (p : Par) : S16x512.Idx → EReal := fun i => outScore p (i 0) (i 1).val

section
variable {p : Par} (c : Dev nD)
  (H : Holds p ⟨k1_pay29 (F := Ideal) (V c main_v6), V c main_arg2, V c main_arg3, V c main_arg4, V c main_v7, V c main_arg7,
    V c main_arg9, V c main_v8⟩)
  (hx : ∀ (t : Fin 512) (b : Fin 16) (j : Fin 320), (V c main_v4 : S512x16x320.Idx → EReal) (ix3 t b j) = proj p b t.val j)
include H hx

theorem flushed1_9 (t : Fin cfg1.N) :
    (dat1 V c).flushed 9 t = (win1_9.blk t).view.read (Elt Ideal) (labels p) := by
  show (cfg1.win 9).cut (grid1.coords t) ((dat1 V c).after 9 t) = _
  rw [after1_9]
  unfold outsAt1
  dsimp only
  rw [whole1_0, whole1_1, whole1_2, whole1_3, whole1_4, whole1_5, whole1_6, whole1_7, whole1_8]
  refine funext fun (y : S16x512.Idx) => ?_
  obtain ⟨b, x, rfl⟩ : ∃ (b : Fin 16) (x : Fin 512), y = ix2 b x := ⟨y 0, y 1, eq_ix2 y⟩
  refine (labels_block c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (V c main_v4) (V c main_v6) (V c main_arg2) (V c main_arg3) (V c main_arg4) (V c main_v7) (V c main_arg7) (V c main_arg9) (V c main_v8) (p := p) ?_ hx b x).trans ?_
  · have e : lensIn (ms1_1 t) (hs1_1 t) (V c main_v6) = V c main_v6 := full_read _ _ _
    rw [e]
    exact H
  · refine congrArg (labels p) (funext fun a => Fin.ext ?_) (a₁ := ix2 b x)
    show ((ix2 b x : S16x512.Idx) a).val = win1_9.index t a * win1_9.size a + 1 * ((ix2 b x : S16x512.Idx) a).val
    rw [first1_9 t a]
    omega

omit H hx in
theorem cover1_9 (i : S16x512.Idx) : ∃ t : Fin cfg1.N, (cfg1.win 9).flush t = true ∧ i ∈ ((cfg1.win 9).blk t).view.set := by
  obtain ⟨t⟩ : Nonempty (Fin cfg1.N) := ⟨⟨0, by decide⟩⟩
  refine ⟨t, flush1_9 t, ?_⟩
  show i ∈ ((View.whole main_v9_0).slice (win1_9.rect t)).set
  rw [View.set_slice_whole, Rect.mem_set_unit]
  intro a
  show win1_9.index t a * win1_9.size a ≤ (i a).val ∧ (i a).val < win1_9.index t a * win1_9.size a + S16x512.size a
  rw [first1_9 t a]
  have := (i a).isLt
  omega

theorem final1_9 : (dat1 V c).arrAt 9 cfg1.N = labels p :=
  (dat1 V c).arrAt_eq_of_cover 9 (labels p) (fun t _ => flushed1_9 V c H hx t) cover1_9

theorem flushed1_10 (t : Fin cfg1.N) :
    (dat1 V c).flushed 10 t = (win1_10.blk t).view.read (Elt Ideal) (scores p) := by
  show (cfg1.win 10).cut (grid1.coords t) ((dat1 V c).after 10 t) = _
  rw [after1_10]
  unfold outsAt1
  dsimp only
  rw [whole1_0, whole1_1, whole1_2, whole1_3, whole1_4, whole1_5, whole1_6, whole1_7, whole1_8]
  refine funext fun (y : S16x512.Idx) => ?_
  obtain ⟨b, x, rfl⟩ : ∃ (b : Fin 16) (x : Fin 512), y = ix2 b x := ⟨y 0, y 1, eq_ix2 y⟩
  refine (scores_block c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (V c main_v4) (V c main_v6) (V c main_arg2) (V c main_arg3) (V c main_arg4) (V c main_v7) (V c main_arg7) (V c main_arg9) (V c main_v8) (p := p) ?_ hx b x).trans ?_
  · have e : lensIn (ms1_1 t) (hs1_1 t) (V c main_v6) = V c main_v6 := full_read _ _ _
    rw [e]
    exact H
  · refine congrArg (scores p) (funext fun a => Fin.ext ?_) (a₁ := ix2 b x)
    show ((ix2 b x : S16x512.Idx) a).val = win1_10.index t a * win1_10.size a + 1 * ((ix2 b x : S16x512.Idx) a).val
    rw [first1_10 t a]
    omega

omit H hx in
theorem cover1_10 (i : S16x512.Idx) : ∃ t : Fin cfg1.N, (cfg1.win 10).flush t = true ∧ i ∈ ((cfg1.win 10).blk t).view.set := by
  obtain ⟨t⟩ : Nonempty (Fin cfg1.N) := ⟨⟨0, by decide⟩⟩
  refine ⟨t, flush1_10 t, ?_⟩
  show i ∈ ((View.whole main_v9_1).slice (win1_10.rect t)).set
  rw [View.set_slice_whole, Rect.mem_set_unit]
  intro a
  show win1_10.index t a * win1_10.size a ≤ (i a).val ∧ (i a).val < win1_10.index t a * win1_10.size a + S16x512.size a
  rw [first1_10 t a]
  have := (i a).isLt
  omega

theorem final1_10 : (dat1 V c).arrAt 10 cfg1.N = scores p :=
  (dat1 V c).arrAt_eq_of_cover 10 (scores p) (fun t _ => flushed1_10 V c H hx t) cover1_10

end

end Cert.KernelIdeal.Own
-- ==== Proof.KerValue.lean ====
/-
  The kernel's whole run: every execution ends with its two results holding the labels and the scores of the decoding of
  its arguments, which it leaves as they were.
-/
module

public import proofs.«01_k».proof.Proof.KerIn
public import proofs.«01_k».proof.Proof.KerOut

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Decoder

local notation "𝕄" => MT nD τ sig Unit (Elt Ideal) ℕ (UR sig nD τ) ℕ

variable (m : (ℓ : Loc nD τ sig) → Buf (Elt Ideal) ℓ) (ρ : Dev nD → PrngReg)

/-- The first result after the last kernel. -/
theorem end_labels (c : Dev nD) : W4 m ρ c (Proc.devRef .tc main_v9_0) = labels (par m c) :=
  (W4_arr m ρ c 9).trans (final1_9 (V3 m ρ) c (in_holds m ρ c) (in_proj m ρ c))

/-- The second result after the last kernel. -/
theorem end_scores (c : Dev nD) : W4 m ρ c (Proc.devRef .tc main_v9_1) = scores (par m c) :=
  (W4_arr m ρ c 10).trans (final1_10 (V3 m ρ) c (in_holds m ρ c) (in_proj m ρ c))

-- the launch's implicit arguments are found by unfolding plain definitions in a metavariable's type
set_option backward.isDefEq.respectTransparency.types false in
/-- The run, its results named: the same launch as the frame's, with the results read off the last boundary too. -/
theorem run_value : θ_run (defs (F := Ideal)) (onTc (τ := τ) (main (F := Ideal))) ⟨m, fun _ => 0, ρ⟩ (fun r => ∀ c : Dev nD,
      r.2.mem ((c.tc : Thread nD τ).loc main_v9_0) = labels (par m c)
      ∧ r.2.mem ((c.tc : Thread nD τ).loc main_v9_1) = scores (par m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v9_0 (by decide))).trans (end_labels m ρ c),
       (h c _ (mem_uc main_v9_1 (by decide))).trans (end_scores m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Own

end
-- ==== Proof.Finite.lean ====
/-
  What the precondition says of the exact reading: an array whose absolute values are all below infinity holds real
  numbers, so the decoding's output weights and output bias are real numbers.
-/
module

public import proofs.«01_k».proof.Defs
public import proofs.«01_k».proof.Proof.KerIn

@[expose] public section

noncomputable section

namespace Cert.Pre_finite.Own

open Idealize.ShloMosaic

/-- The predicate's two shape relations. -/
theorem facts : Cert.Pre_finite.Facts := ⟨by decide, by decide⟩

/-- The bound that the predicate compares with. -/
theorem top_of_bits : Ideal.ofBits .f32 0x7F800000#32 = (⊤ : EReal) := by simp [Ideal.ofBits, Ideal.ieee]

/-- An extended real whose absolute value is below infinity is a real number. -/
theorem real_of_lt (x : Ideal .f32)
    (h : FloatOps.cmpf (F := Ideal) (φ := .f32) .olt (FloatOps.hostAbsf x) (FloatOps.ofBits .f32 0x7F800000#32) = 1#1) :
    ∃ r : ℝ, (x : EReal) = r := by
  have h' : BitVec.ofBool (decide (max (x : EReal) (-(x : EReal)) < Ideal.ofBits .f32 0x7F800000#32)) = 1#1 := h
  rw [top_of_bits] at h'
  have hlt : max (x : EReal) (-(x : EReal)) < ⊤ := by
    by_contra hn
    rw [decide_eq_false hn] at h'
    exact absurd h' (by decide)
  obtain ⟨h1, h2⟩ := max_lt_iff.mp hlt
  have hb : (x : EReal) ≠ ⊥ := by
    intro e
    rw [e, EReal.neg_bot] at h2
    exact lt_irrefl _ h2
  exact ⟨EReal.toReal x, (EReal.coe_toReal h1.ne hb).symm⟩

end Cert.Pre_finite.Own

namespace Cert.KernelIdeal.Own

open Idealize.ShloMosaic
open Cert.KernelIdeal Cert.KernelIdeal.Gen

/-- Under the precondition the decoding's output weights and output bias are real numbers. -/
theorem real_of_pre (m : (ℓ : Loc nD τ sig) → Buf (Elt Ideal) ℓ)
    (h : @Cert.Pre_KernelIdeal_finite Cert.Pre_finite.Own.facts m) (c : Dev nD) : Decoder.Real (par m c) :=
  ⟨fun j v => Cert.Pre_finite.Own.real_of_lt _ (congrFun (h c).1 (ix2 j v)),
    fun v => Cert.Pre_finite.Own.real_of_lt _ (congrFun (h c).2 (ix1 v))⟩

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.RefValue
public import proofs.«01_k».proof.Proof.KerValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- From equal arguments the reference decodes with the kernel's parameters. -/
theorem par_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Own.par m' c = Cert.KernelIdeal.Own.par m c := by
  obtain ⟨h0, h1, h2, h3, h4, h5, h6, h7, h8, h9, h10⟩ := h
  unfold Cert.ReferenceIdeal.Own.par Cert.KernelIdeal.Own.par
  rw [h0, h1, h2, h3, h4, h5, h6, h7, h8, h9, h10]

/-- The value claim: both results of both programs are the decoding's. -/
theorem values : @Cert.algebraic_KernelIdeal_ReferenceIdeal_pre_finite Cert.KernelIdeal.Gen.facts
    Cert.ReferenceIdeal.Gen.facts Cert.Pre_finite.Own.facts := by
  intro m g m' g' hpre hargs
  have hp : ∀ c, Cert.ReferenceIdeal.Own.par m' c = Cert.KernelIdeal.Own.par m c := fun c => par_eq m m' c (hargs c)
  refine ⟨fun c => Cert.KernelIdeal.Own.labels (Cert.KernelIdeal.Own.par m c),
    fun c => Cert.KernelIdeal.Own.scores (Cert.KernelIdeal.Own.par m c), Cert.KernelIdeal.Own.run_value m g, ?_⟩
  refine θ_run_mono (Cert.ReferenceIdeal.Own.run_value m' g' fun c => ?_) fun r h c => ?_
  · rw [hp c]
    exact Cert.KernelIdeal.Own.real_of_pre m hpre c
  · obtain ⟨hl, hs, hrest⟩ := h c
    rw [hp c] at hl hs
    exact ⟨hl, hs, hrest⟩

theorem claim : Cert.Claim := ⟨Cert.Kernel.Gen.facts, Cert.KernelIdeal.Gen.facts, Cert.ReferenceIdeal.Gen.facts,
  Cert.Pre_finite.Own.facts,
  fun m ρ _ => Cert.Kernel.Gen.frame m ρ, fun m ρ _ => Cert.KernelIdeal.Gen.frame m ρ,
  fun m ρ _ => Cert.KernelIdeal.Gen.frame m ρ,
  fun m ρ _ => Cert.ReferenceIdeal.Own.frame m ρ, fun m ρ _ => Cert.ReferenceIdeal.Own.frame m ρ, trivial, values⟩

end Cert.Proof

end
